-- ==== Defs.lean ====
def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdRefIdeal (m : (ℓ : Loc Cert.SsdRefIdeal.nD Cert.SsdRefIdeal.τ Cert.SsdRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6)
      ∧ r.2.mem ((c.tc : Thread Cert.Ssd.nD Cert.Ssd.τ).loc Cert.Ssd.main_arg7) = m ((c.tc : Thread Cert.Ssd.nD Cert.Ssd.τ).loc Cert.Ssd.main_arg7))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6)
      ∧ r.2.mem ((c.tc : Thread Cert.SsdRefIdeal.nD Cert.SsdRefIdeal.τ).loc Cert.SsdRefIdeal.main_arg7) = m ((c.tc : Thread Cert.SsdRefIdeal.nD Cert.SsdRefIdeal.τ).loc Cert.SsdRefIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def preserves_Ssd_SsdIdeal : Prop :=
  True

def algebraic_SsdIdeal_SsdRefIdeal [hSsdIdeal : Cert.SsdIdeal.Facts] [hSsdRefIdeal : Cert.SsdRefIdeal.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdIdeal m →
    (∀ c : Dev Cert.SsdIdeal.nD,
      m' ((c.tc : Thread Cert.SsdRefIdeal.nD Cert.SsdRefIdeal.τ).loc Cert.SsdRefIdeal.main_arg0) = m ((c.tc : Thread Cert.SsdIdeal.nD Cert.SsdIdeal.τ).loc Cert.SsdIdeal.main_arg0)
      ∧ m' ((c.tc : Thread Cert.SsdRefIdeal.nD Cert.SsdRefIdeal.τ).loc Cert.SsdRefIdeal.main_arg1) = m ((c.tc : Thread Cert.SsdIdeal.nD Cert.SsdIdeal.τ).loc Cert.SsdIdeal.main_arg1)
      ∧ m' ((c.tc : Thread Cert.SsdRefIdeal.nD Cert.SsdRefIdeal.τ).loc Cert.SsdRefIdeal.main_arg2) = m ((c.tc : Thread Cert.SsdIdeal.nD Cert.SsdIdeal.τ).loc Cert.SsdIdeal.main_arg2)
      ∧ m' ((c.tc : Thread Cert.SsdRefIdeal.nD Cert.SsdRefIdeal.τ).loc Cert.SsdRefIdeal.main_arg3) = m ((c.tc : Thread Cert.SsdIdeal.nD Cert.SsdIdeal.τ).loc Cert.SsdIdeal.main_arg3)
      ∧ m' ((c.tc : Thread Cert.SsdRefIdeal.nD Cert.SsdRefIdeal.τ).loc Cert.SsdRefIdeal.main_arg4) = m ((c.tc : Thread Cert.SsdIdeal.nD Cert.SsdIdeal.τ).loc Cert.SsdIdeal.main_arg4)
      ∧ m' ((c.tc : Thread Cert.SsdRefIdeal.nD Cert.SsdRefIdeal.τ).loc Cert.SsdRefIdeal.main_arg5) = m ((c.tc : Thread Cert.SsdIdeal.nD Cert.SsdIdeal.τ).loc Cert.SsdIdeal.main_arg5)
      ∧ m' ((c.tc : Thread Cert.SsdRefIdeal.nD Cert.SsdRefIdeal.τ).loc Cert.SsdRefIdeal.main_arg6) = m ((c.tc : Thread Cert.SsdIdeal.nD Cert.SsdIdeal.τ).loc Cert.SsdIdeal.main_arg6)
      ∧ m' ((c.tc : Thread Cert.SsdRefIdeal.nD Cert.SsdRefIdeal.τ).loc Cert.SsdRefIdeal.main_arg7) = m ((c.tc : Thread Cert.SsdIdeal.nD Cert.SsdIdeal.τ).loc Cert.SsdIdeal.main_arg7)) →
    ∃ (v0 : (c : Dev Cert.SsdIdeal.nD) → Buf (Elt Ideal) ((c.tc : Thread Cert.SsdIdeal.nD Cert.SsdIdeal.τ).loc Cert.SsdIdeal.main_v15)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v15) = v0 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
          ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
          ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
          ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v283) = v0 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1)
          ∧ r.2.mem ((c.tc : Thread Cert.SsdRefIdeal.nD Cert.SsdRefIdeal.τ).loc Cert.SsdRefIdeal.main_arg2) = m' ((c.tc : Thread Cert.SsdRefIdeal.nD Cert.SsdRefIdeal.τ).loc Cert.SsdRefIdeal.main_arg2)
          ∧ r.2.mem ((c.tc : Thread Cert.SsdRefIdeal.nD Cert.SsdRefIdeal.τ).loc Cert.SsdRefIdeal.main_arg3) = m' ((c.tc : Thread Cert.SsdRefIdeal.nD Cert.SsdRefIdeal.τ).loc Cert.SsdRefIdeal.main_arg3)
          ∧ r.2.mem ((c.tc : Thread Cert.SsdRefIdeal.nD Cert.SsdRefIdeal.τ).loc Cert.SsdRefIdeal.main_arg4) = m' ((c.tc : Thread Cert.SsdRefIdeal.nD Cert.SsdRefIdeal.τ).loc Cert.SsdRefIdeal.main_arg4)
          ∧ r.2.mem ((c.tc : Thread Cert.SsdRefIdeal.nD Cert.SsdRefIdeal.τ).loc Cert.SsdRefIdeal.main_arg5) = m' ((c.tc : Thread Cert.SsdRefIdeal.nD Cert.SsdRefIdeal.τ).loc Cert.SsdRefIdeal.main_arg5)
          ∧ r.2.mem ((c.tc : Thread Cert.SsdRefIdeal.nD Cert.SsdRefIdeal.τ).loc Cert.SsdRefIdeal.main_arg6) = m' ((c.tc : Thread Cert.SsdRefIdeal.nD Cert.SsdRefIdeal.τ).loc Cert.SsdRefIdeal.main_arg6)
          ∧ r.2.mem ((c.tc : Thread Cert.SsdRefIdeal.nD Cert.SsdRefIdeal.τ).loc Cert.SsdRefIdeal.main_arg7) = m' ((c.tc : Thread Cert.SsdRefIdeal.nD Cert.SsdRefIdeal.τ).loc Cert.SsdRefIdeal.main_arg7))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v10_0)) (v1 : (c : Dev Cert.InProjIdeal.nD) → Buf (Elt Ideal) ((c.tc : Thread Cert.InProjIdeal.nD Cert.InProjIdeal.τ).loc Cert.InProjIdeal.main_v10_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v10_0) = v0 c
          ∧ r.2.mem ((c.tc : Thread Cert.InProjIdeal.nD Cert.InProjIdeal.τ).loc Cert.InProjIdeal.main_v10_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v26) = v0 c
          ∧ r.2.mem ((c.tc : Thread Cert.InProjRefIdeal.nD Cert.InProjRefIdeal.τ).loc Cert.InProjRefIdeal.main_v28) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def Claim : Prop :=
  ∃ (hSsd : Cert.Ssd.Facts) (hSsdIdeal : Cert.SsdIdeal.Facts) (hSsdRefIdeal : Cert.SsdRefIdeal.Facts) (hInProj : Cert.InProj.Facts) (hInProjIdeal : Cert.InProjIdeal.Facts) (hInProjRefIdeal : Cert.InProjRefIdeal.Facts),
    quiescent_Ssd (hSsd := hSsd)
    ∧ quiescent_SsdIdeal (hSsdIdeal := hSsdIdeal)
    ∧ quiescent_SsdRefIdeal (hSsdRefIdeal := hSsdRefIdeal)
    ∧ quiescent_InProj (hInProj := hInProj)
    ∧ quiescent_InProjIdeal (hInProjIdeal := hInProjIdeal)
    ∧ quiescent_InProjRefIdeal (hInProjRefIdeal := hInProjRefIdeal)
    ∧ preserves_Ssd_SsdIdeal
    ∧ algebraic_SsdIdeal_SsdRefIdeal (hSsdIdeal := hSsdIdeal) (hSsdRefIdeal := hSsdRefIdeal)
    ∧ preserves_InProj_InProjIdeal
    ∧ algebraic_InProjIdeal_InProjRefIdeal (hInProjIdeal := hInProjIdeal) (hInProjRefIdeal := hInProjRefIdeal)
-- ==== Ssd.lean ====
abbrev S32768x7168 : Shape := ⟨2, ![32768, 7168]⟩
abbrev S32768x128 : Shape := ⟨2, ![32768, 128]⟩
abbrev S1x4x3072 : Shape := ⟨3, ![1, 4, 3072]⟩
abbrev S1x3072 : Shape := ⟨2, ![1, 3072]⟩
abbrev S1x16 : Shape := ⟨2, ![1, 16]⟩
abbrev S1x1024 : Shape := ⟨2, ![1, 1024]⟩
abbrev S4x3072 : Shape := ⟨2, ![4, 3072]⟩
abbrev S3072 : Shape := ⟨1, ![3072]⟩
abbrev S16 : Shape := ⟨1, ![16]⟩
abbrev S_ : Shape := ⟨0, ![]⟩
abbrev S128 : Shape := ⟨1, ![128]⟩
abbrev S1x128 : Shape := ⟨2, ![1, 128]⟩
abbrev S16x64 : Shape := ⟨2, ![16, 64]⟩
abbrev S1024 : Shape := ⟨1, ![1024]⟩
abbrev S32768x1024 : Shape := ⟨2, ![32768, 1024]⟩
abbrev S2048x128 : Shape := ⟨2, ![2048, 128]⟩
abbrev S4x128 : Shape := ⟨2, ![4, 128]⟩
abbrev S2056x128 : Shape := ⟨2, ![2056, 128]⟩
abbrev S8x128 : Shape := ⟨2, ![8, 128]⟩
abbrev S128x128 : Shape := ⟨2, ![128, 128]⟩
abbrev S128x1 : Shape := ⟨2, ![128, 1]⟩
abbrev S128x64 : Shape := ⟨2, ![128, 64]⟩
abbrev S1 : Shape := ⟨1, ![1]⟩
abbrev S1x1 : Shape := ⟨2, ![1, 1]⟩

abbrev nBuf : Space → Nat
  | .hbm => 28
  | .vmem => 36
  | .smem => 0
  | _ => 0

abbrev bufTy : (tb : Table) → Fin (tcTables nBuf tb) → BufTy
  | .hbm, ⟨0, _⟩ => ⟨S32768x7168, .bf16⟩
  | .hbm, ⟨1, _⟩ => ⟨S32768x128, .f32⟩
  | .hbm, ⟨2, _⟩ => ⟨S1x4x3072, .f32⟩
  | .hbm, ⟨3, _⟩ => ⟨S1x3072, .f32⟩
  | .hbm, ⟨4, _⟩ => ⟨S1x16, .f32⟩
  | .hbm, ⟨5, _⟩ => ⟨S1x16, .f32⟩
  | .hbm, ⟨6, _⟩ => ⟨S1x16, .f32⟩
  | .hbm, ⟨7, _⟩ => ⟨S1x1024, .f32⟩
  | .hbm, ⟨8, _⟩ => ⟨S4x3072, .f32⟩
  | .hbm, ⟨9, _⟩ => ⟨S3072, .f32⟩
  | .hbm, ⟨10, _⟩ => ⟨S1x3072, .f32⟩
  | .hbm, ⟨11, _⟩ => ⟨S16, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S16, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S16, .f32⟩
  | .hbm, ⟨22, _⟩ => ⟨S16x64, .f32⟩
  | .hbm, ⟨23, _⟩ => ⟨S1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S32768x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S2048x128, .f32⟩
  | .local _ .vmem, ⟨10, _⟩ => ⟨S4x128, .f32⟩
  | .local _ .vmem, ⟨11, _⟩ => ⟨S4x128, .f32⟩
  | .local _ .vmem, ⟨12, _⟩ => ⟨S4x128, .f32⟩
  | .local _ .vmem, ⟨13, _⟩ => ⟨S4x128, .f32⟩
  | .local _ .vmem, ⟨14, _⟩ => ⟨S4x128, .f32⟩
  | .local _ .vmem, ⟨15, _⟩ => ⟨S4x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S2048x128, .bf16⟩
  | .local _ .vmem, ⟨29, _⟩ => ⟨S2048x128, .bf16⟩
  | .local _ .vmem, ⟨30, _⟩ => ⟨S2056x128, .f32⟩
  | .local _ .vmem, ⟨31, _⟩ => ⟨S2048x128, .f32⟩
  | .local _ .vmem, ⟨32, _⟩ => ⟨S2048x128, .f32⟩
  | .local _ .vmem, ⟨33, _⟩ => ⟨S2048x128, .f32⟩
  | .local _ .vmem, ⟨34, _⟩ => ⟨S2048x128, .f32⟩
  | .local _ .vmem, ⟨35, _⟩ => ⟨S2048x128, .f32⟩
  | _, _ => ⟨S32768x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_call1_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨2, ![16, 8], ![false, false]⟩

@[reducible] def k0_t1_loop : Scf.Loop 32 :=
  let c0_i32 : BitVec 32 := 0#32
  let c16_i32 : BitVec 32 := 16#32
  let v167 : BitVec 32 := Scalar.addi c0_i32 c16_i32
  let c1_i32 : BitVec 32 := 1#32
  ⟨c0_i32, v167, c1_i32⟩
def k0_mult1 (k0_t1 : Fin k0_t1_loop.trips) : BitVec 32 :=
  let c0_i32 : BitVec 32 := 0#32
  let c1_i32 : BitVec 32 := 1#32
  let arg24 : BitVec 32 := Scf.iv c0_i32 c1_i32 k0_t1
  let c128_i32 : BitVec 32 := 128#32
  let v169 : BitVec 32 := Scalar.muli arg24 c128_i32
  v169
def k0_off1 (k0_t1 : Fin k0_t1_loop.trips) : Fin 2 → Nat :=
  let c0_i32 : BitVec 32 := 0#32
  let c1_i32 : BitVec 32 := 1#32
  let arg24 : BitVec 32 := Scf.iv c0_i32 c1_i32 k0_t1
  let c128_i32 : BitVec 32 := 128#32
  let v169 : BitVec 32 := Scalar.muli arg24 c128_i32
  let v170 : BitVec 32 := v169
  let v171 : Index := Scalar.indexCast v170
  let c0_90 : Index := 0#32
  ![v171.toNat, 0]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S2048x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== SsdRefIdeal.lean ====
abbrev S32768x7168 : Shape := ⟨2, ![32768, 7168]⟩
abbrev S32768x128 : Shape := ⟨2, ![32768, 128]⟩
abbrev S1x4x3072 : Shape := ⟨3, ![1, 4, 3072]⟩
abbrev S1x3072 : Shape := ⟨2, ![1, 3072]⟩
abbrev S1x16 : Shape := ⟨2, ![1, 16]⟩
abbrev S1x1024 : Shape := ⟨2, ![1, 1024]⟩
abbrev S16x2048x7168 : Shape := ⟨3, ![16, 2048, 7168]⟩
abbrev S16x2048x128 : Shape := ⟨3, ![16, 2048, 128]⟩
abbrev S16x2048x16 : Shape := ⟨3, ![16, 2048, 16]⟩
abbrev S16x2048x1024 : Shape := ⟨3, ![16, 2048, 1024]⟩
abbrev S16x2048x3072 : Shape := ⟨3, ![16, 2048, 3072]⟩
abbrev S_ : Shape := ⟨0, ![]⟩
abbrev S16x2051x3072 : Shape := ⟨3, ![16, 2051, 3072]⟩
abbrev S4x3072 : Shape := ⟨2, ![4, 3072]⟩
abbrev S3072 : Shape := ⟨1, ![3072]⟩
abbrev S1x1x3072 : Shape := ⟨3, ![1, 1, 3072]⟩
abbrev S16 : Shape := ⟨1, ![16]⟩
abbrev S1x1x16 : Shape := ⟨3, ![1, 1, 16]⟩
abbrev S16x2048x16x64 : Shape := ⟨4, ![16, 2048, 16, 64]⟩
abbrev S16x2048x16x1 : Shape := ⟨4, ![16, 2048, 16, 1]⟩
abbrev S16x16x128x8x2x64 : Shape := ⟨6, ![16, 16, 128, 8, 2, 64]⟩
abbrev S16x16x128x8x2 : Shape := ⟨5, ![16, 16, 128, 8, 2]⟩
abbrev S16x16x128x8x128 : Shape := ⟨5, ![16, 16, 128, 8, 128]⟩
abbrev S128x128 : Shape := ⟨2, ![128, 128]⟩
abbrev S16x16x128x1x8x2 : Shape := ⟨6, ![16, 16, 128, 1, 8, 2]⟩
abbrev S16x16x1x128x8x2 : Shape := ⟨6, ![16, 16, 1, 128, 8, 2]⟩
abbrev S16x16x128x128x8x2 : Shape := ⟨6, ![16, 16, 128, 128, 8, 2]⟩
abbrev S128x128x1x1 : Shape := ⟨4, ![128, 128, 1, 1]⟩
abbrev S16x16x8x128x128 : Shape := ⟨5, ![16, 16, 8, 128, 128]⟩
abbrev S16x16x128x128x8 : Shape := ⟨5, ![16, 16, 128, 128, 8]⟩
abbrev S16x16x128x128x8x1 : Shape := ⟨6, ![16, 16, 128, 128, 8, 1]⟩
abbrev S16x16x8x2x64x128 : Shape := ⟨6, ![16, 16, 8, 2, 64, 128]⟩
abbrev S16x16x1x8x2 : Shape := ⟨5, ![16, 16, 1, 8, 2]⟩
abbrev S16x16x128x8x2x1 : Shape := ⟨6, ![16, 16, 128, 8, 2, 1]⟩
abbrev S16x16x8x2 : Shape := ⟨4, ![16, 16, 8, 2]⟩
abbrev S16x8x2x64x128 : Shape := ⟨5, ![16, 8, 2, 64, 128]⟩
abbrev S16x1x8x2 : Shape := ⟨4, ![16, 1, 8, 2]⟩
abbrev S16x8x2 : Shape := ⟨3, ![16, 8, 2]⟩
abbrev S16x8x2x1x1 : Shape := ⟨5, ![16, 8, 2, 1, 1]⟩
abbrev S16x1x8x2x64x128 : Shape := ⟨6, ![16, 1, 8, 2, 64, 128]⟩
abbrev S16x1 : Shape := ⟨2, ![16, 1]⟩
abbrev S1x1x16x1 : Shape := ⟨4, ![1, 1, 16, 1]⟩
abbrev S16x2048x8x128 : Shape := ⟨4, ![16, 2048, 8, 128]⟩
abbrev S16x2048x8 : Shape := ⟨3, ![16, 2048, 8]⟩
abbrev S16x2048x8x1 : Shape := ⟨4, ![16, 2048, 8, 1]⟩
abbrev S1024 : Shape := ⟨1, ![1024]⟩
abbrev S8x128 : Shape := ⟨2, ![8, 128]⟩
abbrev S1x1x8x128 : Shape := ⟨4, ![1, 1, 8, 128]⟩
abbrev S32768x1024 : Shape := ⟨2, ![32768, 1024]⟩

abbrev nBuf : Space → Nat
  | .hbm => 330
  | .vmem => 0
  | .smem => 0
  | _ => 0

abbrev hbmTy0_0 (i : Nat) : BufTy := match i % 128 with
  | 0 => ⟨S32768x7168, .bf16⟩
  | 1 => ⟨S32768x128, .f32⟩
  | 2 => ⟨S1x4x3072, .f32⟩
  | 3 => ⟨S1x3072, .f32⟩
  | 4 => ⟨S1x16, .f32⟩
  | 5 => ⟨S1x16, .f32⟩
  | 6 => ⟨S1x16, .f32⟩
  | 7 => ⟨S1x1024, .f32⟩
  | 8 => ⟨S32768x7168, .f32⟩
  | 9 => ⟨S16x2048x7168, .f32⟩
  | 10 => ⟨S16x2048x128, .f32⟩
  | 11 => ⟨S16x2048x16, .f32⟩
  | 12 => ⟨S16x2048x1024, .f32⟩
  | 13 => ⟨S16x2048x3072, .f32⟩
  | 14 => ⟨S_, .i32⟩
  | 15 => ⟨S_, .f32⟩
  | 16 => ⟨S16x2051x3072, .f32⟩
  | 17 => ⟨S4x3072, .f32⟩
  | 18 => ⟨S1x3072, .f32⟩
  | 19 => ⟨S3072, .f32⟩
  | 20 => ⟨S16x2048x3072, .f32⟩
  | 21 => ⟨S1x1x3072, .f32⟩
  | 22 => ⟨S16x2048x3072, .f32⟩
  | 23 => ⟨S16x2048x3072, .f32⟩
  | 24 => ⟨S1x3072, .f32⟩
  | 25 => ⟨S3072, .f32⟩
  | 26 => ⟨S16x2048x3072, .f32⟩
  | 27 => ⟨S1x1x3072, .f32⟩
  | 28 => ⟨S16x2048x3072, .f32⟩
  | 29 => ⟨S16x2048x3072, .f32⟩
  | 30 => ⟨S16x2048x3072, .f32⟩
  | 31 => ⟨S1x3072, .f32⟩
  | 32 => ⟨S3072, .f32⟩
  | 33 => ⟨S16x2048x3072, .f32⟩
  | 34 => ⟨S1x1x3072, .f32⟩
  | 35 => ⟨S16x2048x3072, .f32⟩
  | 36 => ⟨S16x2048x3072, .f32⟩
  | 37 => ⟨S16x2048x3072, .f32⟩
  | 38 => ⟨S1x3072, .f32⟩
  | 39 => ⟨S3072, .f32⟩
  | 40 => ⟨S16x2048x3072, .f32⟩
  | 41 => ⟨S1x1x3072, .f32⟩
  | 42 => ⟨S16x2048x3072, .f32⟩
  | 43 => ⟨S16x2048x3072, .f32⟩
  | 44 => ⟨S16x2048x3072, .f32⟩
  | 45 => ⟨S3072, .f32⟩
  | 46 => ⟨S1x1x3072, .f32⟩
  | 47 => ⟨S16x2048x3072, .f32⟩
  | 48 => ⟨S16x2048x3072, .f32⟩
  | 49 => ⟨S16x2048x3072, .f32⟩
  | 50 => ⟨S16x2048x3072, .f32⟩
  | 51 => ⟨S_, .f32⟩
  | 52 => ⟨S16x2048x3072, .f32⟩
  | 53 => ⟨S16x2048x3072, .f32⟩
  | 54 => ⟨S_, .f32⟩
  | 55 => ⟨S16x2048x3072, .f32⟩
  | 56 => ⟨S16x2048x3072, .f32⟩
  | 57 => ⟨S16x2048x3072, .f32⟩
  | 58 => ⟨S16x2048x1024, .f32⟩
  | 59 => ⟨S16x2048x1024, .f32⟩
  | 60 => ⟨S16x2048x1024, .f32⟩
  | 61 => ⟨S16, .f32⟩
  | 62 => ⟨S1x1x16, .f32⟩
  | 63 => ⟨S16x2048x16, .f32⟩
  | 64 => ⟨S16x2048x16, .f32⟩
  | 65 => ⟨S_, .f32⟩
  | 66 => ⟨S16x2048x16, .f32⟩
  | 67 => ⟨S16x2048x16, .f32⟩
  | 68 => ⟨S16x2048x16, .f32⟩
  | 69 => ⟨S16x2048x16, .f32⟩
  | 70 => ⟨S16x2048x16, .i1⟩
  | 71 => ⟨S16x2048x16, .f32⟩
  | 72 => ⟨S16x2048x16, .f32⟩
  | 73 => ⟨S16x2048x16, .f32⟩
  | 74 => ⟨S16x2048x16, .f32⟩
  | 75 => ⟨S16x2048x16, .f32⟩
  | 76 => ⟨S16x2048x16, .f32⟩
  | 77 => ⟨S16x2048x16, .f32⟩
  | 78 => ⟨S16x2048x16, .f32⟩
  | 79 => ⟨S16, .f32⟩
  | 80 => ⟨S16, .f32⟩
  | 81 => ⟨S16, .f32⟩
  | 82 => ⟨S16x2048x16x64, .f32⟩
  | 83 => ⟨S16x2048x16x1, .f32⟩
  | 84 => ⟨S16x2048x16x64, .f32⟩
  | 85 => ⟨S16x2048x16x64, .f32⟩
  | 86 => ⟨S16x16x128x8x2x64, .f32⟩
  | 87 => ⟨S1x1x16, .f32⟩
  | 88 => ⟨S16x2048x16, .f32⟩
  | 89 => ⟨S16x2048x16, .f32⟩
  | 90 => ⟨S16x16x128x8x2, .f32⟩
  | 91 => ⟨S_, .f32⟩
  | 92 => ⟨S_, .f32⟩
  | 93 => ⟨S16x16x128x8x2, .f32⟩
  | 94 => ⟨S16x16x128x8x128, .f32⟩
  | 95 => ⟨S16x16x128x8x128, .f32⟩
  | 96 => ⟨S_, .i1⟩
  | 97 => ⟨S128x128, .i1⟩
  | 98 => ⟨S128x128, .i32⟩
  | 99 => ⟨S_, .i32⟩
  | 100 => ⟨S128x128, .i32⟩
  | 101 => ⟨S128x128, .i32⟩
  | 102 => ⟨S128x128, .i32⟩
  | 103 => ⟨S128x128, .i1⟩
  | 104 => ⟨S_, .i1⟩
  | 105 => ⟨S128x128, .i1⟩
  | 106 => ⟨S128x128, .i1⟩
  | 107 => ⟨S16x16x128x1x8x2, .f32⟩
  | 108 => ⟨S16x16x1x128x8x2, .f32⟩
  | 109 => ⟨S16x16x128x128x8x2, .f32⟩
  | 110 => ⟨S16x16x128x128x8x2, .f32⟩
  | 111 => ⟨S16x16x128x128x8x2, .f32⟩
  | 112 => ⟨S128x128x1x1, .i1⟩
  | 113 => ⟨S_, .f32⟩
  | 114 => ⟨S_, .f32⟩
  | 115 => ⟨S16x16x128x128x8x2, .i1⟩
  | 116 => ⟨S16x16x128x128x8x2, .f32⟩
  | 117 => ⟨S16x16x128x128x8x2, .f32⟩
  | 118 => ⟨S16x16x128x128x8x2, .f32⟩
  | 119 => ⟨S16x16x8x128x128, .f32⟩
  | 120 => ⟨S16x16x128x128x8, .f32⟩
  | 121 => ⟨S16x16x128x128x8x1, .f32⟩
  | 122 => ⟨S16x16x128x128x8x2, .f32⟩
  | 123 => ⟨S16x16x128x128x8x2, .f32⟩
  | 124 => ⟨S16x16x8x2x64x128, .f32⟩
  | 125 => ⟨S16x16x128x8x2x64, .f32⟩
  | 126 => ⟨S16x16x1x8x2, .f32⟩
  | 127 => ⟨S16x16x128x8x2, .f32⟩
  | _ => ⟨S32768x7168, .bf16⟩

abbrev hbmTy0_1 (i : Nat) : BufTy := match i % 128 with
  | 0 => ⟨S16x16x128x8x2, .f32⟩
  | 1 => ⟨S16x16x128x8x2, .f32⟩
  | 2 => ⟨S16x16x128x8x2x1, .f32⟩
  | 3 => ⟨S16x16x128x8x2x64, .f32⟩
  | 4 => ⟨S16x16x128x8x2x64, .f32⟩
  | 5 => ⟨S16x16x8x2x64x128, .f32⟩
  | 6 => ⟨S16x16x1x8x2, .f32⟩
  | 7 => ⟨S16x16x8x2, .f32⟩
  | 8 => ⟨S16x16x8x2, .f32⟩
  | 9 => ⟨S_, .f32⟩
  | 10 => ⟨S16x8x2x64x128, .f32⟩
  | 11 => ⟨S16x1x8x2, .f32⟩
  | 12 => ⟨S16x8x2, .f32⟩
  | 13 => ⟨S16x8x2x1x1, .f32⟩
  | 14 => ⟨S16x8x2x64x128, .f32⟩
  | 15 => ⟨S16x8x2x64x128, .f32⟩
  | 16 => ⟨S16x1x8x2x64x128, .f32⟩
  | 17 => ⟨S16x8x2x64x128, .f32⟩
  | 18 => ⟨S16x8x2x64x128, .f32⟩
  | 19 => ⟨S16x1x8x2, .f32⟩
  | 20 => ⟨S16x8x2, .f32⟩
  | 21 => ⟨S16x8x2x1x1, .f32⟩
  | 22 => ⟨S16x8x2x64x128, .f32⟩
  | 23 => ⟨S16x8x2x64x128, .f32⟩
  | 24 => ⟨S16x1x8x2x64x128, .f32⟩
  | 25 => ⟨S16x8x2x64x128, .f32⟩
  | 26 => ⟨S16x8x2x64x128, .f32⟩
  | 27 => ⟨S16x1x8x2, .f32⟩
  | 28 => ⟨S16x8x2, .f32⟩
  | 29 => ⟨S16x8x2x1x1, .f32⟩
  | 30 => ⟨S16x8x2x64x128, .f32⟩
  | 31 => ⟨S16x8x2x64x128, .f32⟩
  | 32 => ⟨S16x1x8x2x64x128, .f32⟩
  | 33 => ⟨S16x8x2x64x128, .f32⟩
  | 34 => ⟨S16x8x2x64x128, .f32⟩
  | 35 => ⟨S16x1x8x2, .f32⟩
  | 36 => ⟨S16x8x2, .f32⟩
  | 37 => ⟨S16x8x2x1x1, .f32⟩
  | 38 => ⟨S16x8x2x64x128, .f32⟩
  | 39 => ⟨S16x8x2x64x128, .f32⟩
  | 40 => ⟨S16x1x8x2x64x128, .f32⟩
  | 41 => ⟨S16x8x2x64x128, .f32⟩
  | 42 => ⟨S16x8x2x64x128, .f32⟩
  | 43 => ⟨S16x1x8x2, .f32⟩
  | 44 => ⟨S16x8x2, .f32⟩
  | 45 => ⟨S16x8x2x1x1, .f32⟩
  | 46 => ⟨S16x8x2x64x128, .f32⟩
  | 47 => ⟨S16x8x2x64x128, .f32⟩
  | 48 => ⟨S16x1x8x2x64x128, .f32⟩
  | 49 => ⟨S16x8x2x64x128, .f32⟩
  | 50 => ⟨S16x8x2x64x128, .f32⟩
  | 51 => ⟨S16x1x8x2, .f32⟩
  | 52 => ⟨S16x8x2, .f32⟩
  | 53 => ⟨S16x8x2x1x1, .f32⟩
  | 54 => ⟨S16x8x2x64x128, .f32⟩
  | 55 => ⟨S16x8x2x64x128, .f32⟩
  | 56 => ⟨S16x1x8x2x64x128, .f32⟩
  | 57 => ⟨S16x8x2x64x128, .f32⟩
  | 58 => ⟨S16x8x2x64x128, .f32⟩
  | 59 => ⟨S16x1x8x2, .f32⟩
  | 60 => ⟨S16x8x2, .f32⟩
  | 61 => ⟨S16x8x2x1x1, .f32⟩
  | 62 => ⟨S16x8x2x64x128, .f32⟩
  | 63 => ⟨S16x8x2x64x128, .f32⟩
  | 64 => ⟨S16x1x8x2x64x128, .f32⟩
  | 65 => ⟨S16x8x2x64x128, .f32⟩
  | 66 => ⟨S16x8x2x64x128, .f32⟩
  | 67 => ⟨S16x1x8x2, .f32⟩
  | 68 => ⟨S16x8x2, .f32⟩
  | 69 => ⟨S16x8x2x1x1, .f32⟩
  | 70 => ⟨S16x8x2x64x128, .f32⟩
  | 71 => ⟨S16x8x2x64x128, .f32⟩
  | 72 => ⟨S16x1x8x2x64x128, .f32⟩
  | 73 => ⟨S16x8x2x64x128, .f32⟩
  | 74 => ⟨S16x8x2x64x128, .f32⟩
  | 75 => ⟨S16x1x8x2, .f32⟩
  | 76 => ⟨S16x8x2, .f32⟩
  | 77 => ⟨S16x8x2x1x1, .f32⟩
  | 78 => ⟨S16x8x2x64x128, .f32⟩
  | 79 => ⟨S16x8x2x64x128, .f32⟩
  | 80 => ⟨S16x1x8x2x64x128, .f32⟩
  | 81 => ⟨S16x8x2x64x128, .f32⟩
  | 82 => ⟨S16x8x2x64x128, .f32⟩
  | 83 => ⟨S16x1x8x2, .f32⟩
  | 84 => ⟨S16x8x2, .f32⟩
  | 85 => ⟨S16x8x2x1x1, .f32⟩
  | 86 => ⟨S16x8x2x64x128, .f32⟩
  | 87 => ⟨S16x8x2x64x128, .f32⟩
  | 88 => ⟨S16x1x8x2x64x128, .f32⟩
  | 89 => ⟨S16x8x2x64x128, .f32⟩
  | 90 => ⟨S16x8x2x64x128, .f32⟩
  | 91 => ⟨S16x1x8x2, .f32⟩
  | 92 => ⟨S16x8x2, .f32⟩
  | 93 => ⟨S16x8x2x1x1, .f32⟩
  | 94 => ⟨S16x8x2x64x128, .f32⟩
  | 95 => ⟨S16x8x2x64x128, .f32⟩
  | 96 => ⟨S16x1x8x2x64x128, .f32⟩
  | 97 => ⟨S16x8x2x64x128, .f32⟩
  | 98 => ⟨S16x8x2x64x128, .f32⟩
  | 99 => ⟨S16x1x8x2, .f32⟩
  | 100 => ⟨S16x8x2, .f32⟩
  | 101 => ⟨S16x8x2x1x1, .f32⟩
  | 102 => ⟨S16x8x2x64x128, .f32⟩
  | 103 => ⟨S16x8x2x64x128, .f32⟩
  | 104 => ⟨S16x1x8x2x64x128, .f32⟩
  | 105 => ⟨S16x8x2x64x128, .f32⟩
  | 106 => ⟨S16x8x2x64x128, .f32⟩
  | 107 => ⟨S16x1x8x2, .f32⟩
  | 108 => ⟨S16x8x2, .f32⟩
  | 109 => ⟨S16x8x2x1x1, .f32⟩
  | 110 => ⟨S16x8x2x64x128, .f32⟩
  | 111 => ⟨S16x8x2x64x128, .f32⟩
  | 112 => ⟨S16x1x8x2x64x128, .f32⟩
  | 113 => ⟨S16x8x2x64x128, .f32⟩
  | 114 => ⟨S16x8x2x64x128, .f32⟩
  | 115 => ⟨S16x1x8x2, .f32⟩
  | 116 => ⟨S16x8x2, .f32⟩
  | 117 => ⟨S16x8x2x1x1, .f32⟩
  | 118 => ⟨S16x8x2x64x128, .f32⟩
  | 119 => ⟨S16x8x2x64x128, .f32⟩
  | 120 => ⟨S16x1x8x2x64x128, .f32⟩
  | 121 => ⟨S16x8x2x64x128, .f32⟩
  | 122 => ⟨S16x8x2x64x128, .f32⟩
  | 123 => ⟨S16x1x8x2, .f32⟩
  | 124 => ⟨S16x8x2, .f32⟩
  | 125 => ⟨S16x8x2x1x1, .f32⟩
  | 126 => ⟨S16x8x2x64x128, .f32⟩
  | 127 => ⟨S16x8x2x64x128, .f32⟩
  | _ => ⟨S32768x7168, .bf16⟩

abbrev hbmTy0_2 (i : Nat) : BufTy := match i % 128 with
  | 0 => ⟨S16x1x8x2x64x128, .f32⟩
  | 1 => ⟨S16x8x2x64x128, .f32⟩
  | 2 => ⟨S16x8x2x64x128, .f32⟩
  | 3 => ⟨S16x1x8x2, .f32⟩
  | 4 => ⟨S16x8x2, .f32⟩
  | 5 => ⟨S16x8x2x1x1, .f32⟩
  | 6 => ⟨S16x8x2x64x128, .f32⟩
  | 7 => ⟨S16x8x2x64x128, .f32⟩
  | 8 => ⟨S16x1x8x2x64x128, .f32⟩
  | 9 => ⟨S16x8x2x64x128, .f32⟩
  | 10 => ⟨S16x8x2x64x128, .f32⟩
  | 11 => ⟨S16x1x8x2x64x128, .f32⟩
  | 12 => ⟨S16x1x8x2x64x128, .f32⟩
  | 13 => ⟨S16x1x8x2x64x128, .f32⟩
  | 14 => ⟨S16x1x8x2x64x128, .f32⟩
  | 15 => ⟨S16x1x8x2x64x128, .f32⟩
  | 16 => ⟨S16x1x8x2x64x128, .f32⟩
  | 17 => ⟨S16x1x8x2x64x128, .f32⟩
  | 18 => ⟨S16x1x8x2x64x128, .f32⟩
  | 19 => ⟨S16x1x8x2x64x128, .f32⟩
  | 20 => ⟨S16x1x8x2x64x128, .f32⟩
  | 21 => ⟨S16x1x8x2x64x128, .f32⟩
  | 22 => ⟨S16x1x8x2x64x128, .f32⟩
  | 23 => ⟨S16x1x8x2x64x128, .f32⟩
  | 24 => ⟨S16x1x8x2x64x128, .f32⟩
  | 25 => ⟨S16x1x8x2x64x128, .f32⟩
  | 26 => ⟨S16x1x8x2x64x128, .f32⟩
  | 27 => ⟨S16x16x8x2x64x128, .f32⟩
  | 28 => ⟨S16x16x8x2x64x128, .f32⟩
  | 29 => ⟨S16x16x128x8x2x64, .f32⟩
  | 30 => ⟨S16x16x128x8x2, .f32⟩
  | 31 => ⟨S16x16x128x8x2x1, .f32⟩
  | 32 => ⟨S16x16x128x8x2x64, .f32⟩
  | 33 => ⟨S16x16x128x8x2x64, .f32⟩
  | 34 => ⟨S16x16x128x8x2x64, .f32⟩
  | 35 => ⟨S16x2048x16x64, .f32⟩
  | 36 => ⟨S16, .f32⟩
  | 37 => ⟨S16x1, .f32⟩
  | 38 => ⟨S1x1x16x1, .f32⟩
  | 39 => ⟨S16x2048x16x64, .f32⟩
  | 40 => ⟨S16x2048x16x64, .f32⟩
  | 41 => ⟨S16x2048x16x64, .f32⟩
  | 42 => ⟨S16x2048x1024, .f32⟩
  | 43 => ⟨S16x2048x1024, .f32⟩
  | 44 => ⟨S16x2048x1024, .f32⟩
  | 45 => ⟨S_, .f32⟩
  | 46 => ⟨S16x2048x1024, .f32⟩
  | 47 => ⟨S16x2048x1024, .f32⟩
  | 48 => ⟨S_, .f32⟩
  | 49 => ⟨S16x2048x1024, .f32⟩
  | 50 => ⟨S16x2048x1024, .f32⟩
  | 51 => ⟨S16x2048x1024, .f32⟩
  | 52 => ⟨S16x2048x1024, .f32⟩
  | 53 => ⟨S16x2048x8x128, .f32⟩
  | 54 => ⟨S16x2048x8x128, .f32⟩
  | 55 => ⟨S_, .f32⟩
  | 56 => ⟨S16x2048x8, .f32⟩
  | 57 => ⟨S16x2048x8x1, .f32⟩
  | 58 => ⟨S_, .f32⟩
  | 59 => ⟨S16x2048x8x1, .f32⟩
  | 60 => ⟨S16x2048x8x1, .f32⟩
  | 61 => ⟨S_, .f32⟩
  | 62 => ⟨S16x2048x8x1, .f32⟩
  | 63 => ⟨S16x2048x8x1, .f32⟩
  | 64 => ⟨S16x2048x8x1, .f32⟩
  | 65 => ⟨S16x2048x8x128, .f32⟩
  | 66 => ⟨S16x2048x8x128, .f32⟩
  | 67 => ⟨S1024, .f32⟩
  | 68 => ⟨S8x128, .f32⟩
  | 69 => ⟨S1x1x8x128, .f32⟩
  | 70 => ⟨S16x2048x8x128, .f32⟩
  | 71 => ⟨S16x2048x8x128, .f32⟩
  | 72 => ⟨S32768x1024, .f32⟩
  | 73 => ⟨S32768x1024, .bf16⟩
  | _ => ⟨S32768x7168, .bf16⟩

abbrev hbmTy (i : Nat) : BufTy := match i / 128 with
  | 0 => hbmTy0_0 i
  | 1 => hbmTy0_1 i
  | 2 => hbmTy0_2 i
  | _ => ⟨S32768x7168, .bf16⟩

abbrev bufTy : (tb : Table) → Fin (tcTables nBuf tb) → BufTy
  | .hbm, ⟨i, _⟩ => hbmTy i
  | _, _ => ⟨S32768x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst : Ref sig .tc := ⟨.hbm, 51, rfl⟩
abbrev main_v41 : Ref sig .tc := ⟨.hbm, 52, rfl⟩
abbrev main_v42 : Ref sig .tc := ⟨.hbm, 53, rfl⟩
abbrev main_cst_0 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_call1_cst : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_call2_call0_cst : Ref sig .tc := ⟨.hbm, 91, rfl⟩
abbrev main_call2_call0_v0 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_1 : Ref sig .tc := ⟨.hbm, 96, rfl⟩
abbrev main_v69 : Ref sig .tc := ⟨.hbm, 97, rfl⟩
abbrev main_call3_v0 : Ref sig .tc := ⟨.hbm, 98, rfl⟩
abbrev main_call3_c : Ref sig .tc := ⟨.hbm, 99, rfl⟩
abbrev main_call3_v1 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_call3_c_0 : Ref sig .tc := ⟨.hbm, 104, rfl⟩
abbrev main_call3_v5 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_2 : Ref sig .tc := ⟨.hbm, 113, rfl⟩
abbrev main_call4_v0 : Ref sig .tc := ⟨.hbm, 114, rfl⟩
abbrev main_call4_v1 : Ref sig .tc := ⟨.hbm, 115, rfl⟩
abbrev main_call4_v2 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_3 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_v203 : Ref sig .tc := ⟨.hbm, 244, rfl⟩
abbrev main_v204 : Ref sig .tc := ⟨.hbm, 245, rfl⟩
abbrev main_v205 : Ref sig .tc := ⟨.hbm, 246, rfl⟩
abbrev main_v206 : Ref sig .tc := ⟨.hbm, 247, rfl⟩
abbrev main_v207 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_v211 : Ref sig .tc := ⟨.hbm, 252, rfl⟩
abbrev main_v212 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_v216 : Ref sig .tc := ⟨.hbm, 257, rfl⟩
abbrev main_v217 : Ref sig .tc := ⟨.hbm, 258, rfl⟩
abbrev main_v218 : Ref sig .tc := ⟨.hbm, 259, rfl⟩
abbrev main_v219 : Ref sig .tc := ⟨.hbm, 260, rfl⟩
abbrev main_v220 : Ref sig .tc := ⟨.hbm, 261, rfl⟩
abbrev main_v221 : Ref sig .tc := ⟨.hbm, 262, rfl⟩
abbrev main_v222 : Ref sig .tc := ⟨.hbm, 263, rfl⟩
abbrev main_v223 : Ref sig .tc := ⟨.hbm, 264, rfl⟩
abbrev main_v224 : Ref sig .tc := ⟨.hbm, 265, rfl⟩
abbrev main_v225 : Ref sig .tc := ⟨.hbm, 266, rfl⟩
abbrev main_v226 : Ref sig .tc := ⟨.hbm, 267, rfl⟩
abbrev main_v227 : Ref sig .tc := ⟨.hbm, 268, rfl⟩
abbrev main_v228 : Ref sig .tc := ⟨.hbm, 269, rfl⟩
abbrev main_v229 : Ref sig .tc := ⟨.hbm, 270, rfl⟩
abbrev main_v230 : Ref sig .tc := ⟨.hbm, 271, rfl⟩
abbrev main_v231 : Ref sig .tc := ⟨.hbm, 272, rfl⟩
abbrev main_v232 : Ref sig .tc := ⟨.hbm, 273, rfl⟩
abbrev main_v233 : Ref sig .tc := ⟨.hbm, 274, rfl⟩
abbrev main_v234 : Ref sig .tc := ⟨.hbm, 275, rfl⟩
abbrev main_v235 : Ref sig .tc := ⟨.hbm, 276, rfl⟩
abbrev main_v236 : Ref sig .tc := ⟨.hbm, 277, rfl⟩
abbrev main_v237 : Ref sig .tc := ⟨.hbm, 278, rfl⟩
abbrev main_v238 : Ref sig .tc := ⟨.hbm, 279, rfl⟩
abbrev main_v239 : Ref sig .tc := ⟨.hbm, 280, rfl⟩
abbrev main_v240 : Ref sig .tc := ⟨.hbm, 281, rfl⟩
abbrev main_v241 : Ref sig .tc := ⟨.hbm, 282, rfl⟩
abbrev main_v242 : Ref sig .tc := ⟨.hbm, 283, rfl⟩
abbrev main_v243 : Ref sig .tc := ⟨.hbm, 284, rfl⟩
abbrev main_v244 : Ref sig .tc := ⟨.hbm, 285, rfl⟩
abbrev main_v245 : Ref sig .tc := ⟨.hbm, 286, rfl⟩
abbrev main_v246 : Ref sig .tc := ⟨.hbm, 287, rfl⟩
abbrev main_v247 : Ref sig .tc := ⟨.hbm, 288, rfl⟩
abbrev main_v248 : Ref sig .tc := ⟨.hbm, 289, rfl⟩
abbrev main_v249 : Ref sig .tc := ⟨.hbm, 290, rfl⟩
abbrev main_v250 : Ref sig .tc := ⟨.hbm, 291, rfl⟩
abbrev main_v251 : Ref sig .tc := ⟨.hbm, 292, rfl⟩
abbrev main_v252 : Ref sig .tc := ⟨.hbm, 293, rfl⟩
abbrev main_v253 : Ref sig .tc := ⟨.hbm, 294, rfl⟩
abbrev main_v254 : Ref sig .tc := ⟨.hbm, 295, rfl⟩
abbrev main_v255 : Ref sig .tc := ⟨.hbm, 296, rfl⟩
abbrev main_v256 : Ref sig .tc := ⟨.hbm, 297, rfl⟩
abbrev main_v257 : Ref sig .tc := ⟨.hbm, 298, rfl⟩
abbrev main_v258 : Ref sig .tc := ⟨.hbm, 299, rfl⟩
abbrev main_v259 : Ref sig .tc := ⟨.hbm, 300, rfl⟩
abbrev main_cst_4 : Ref sig .tc := ⟨.hbm, 301, rfl⟩
abbrev main_v260 : Ref sig .tc := ⟨.hbm, 302, rfl⟩
abbrev main_v261 : Ref sig .tc := ⟨.hbm, 303, rfl⟩
abbrev main_cst_5 : Ref sig .tc := ⟨.hbm, 304, rfl⟩
abbrev main_v262 : Ref sig .tc := ⟨.hbm, 305, rfl⟩
abbrev main_v263 : Ref sig .tc := ⟨.hbm, 306, rfl⟩
abbrev main_v264 : Ref sig .tc := ⟨.hbm, 307, rfl⟩
abbrev main_v265 : Ref sig .tc := ⟨.hbm, 308, rfl⟩
abbrev main_v266 : Ref sig .tc := ⟨.hbm, 309, rfl⟩
abbrev main_v267 : Ref sig .tc := ⟨.hbm, 310, rfl⟩
abbrev main_cst_6 : Ref sig .tc := ⟨.hbm, 311, rfl⟩
abbrev main_v268 : Ref sig .tc := ⟨.hbm, 312, rfl⟩
abbrev main_v269 : Ref sig .tc := ⟨.hbm, 313, rfl⟩
abbrev main_cst_7 : Ref sig .tc := ⟨.hbm, 314, rfl⟩
abbrev main_v270 : Ref sig .tc := ⟨.hbm, 315, rfl⟩
abbrev main_v271 : Ref sig .tc := ⟨.hbm, 316, rfl⟩
abbrev main_cst_8 : Ref sig .tc := ⟨.hbm, 317, rfl⟩
abbrev main_v272 : Ref sig .tc := ⟨.hbm, 318, rfl⟩
abbrev main_v273 : Ref sig .tc := ⟨.hbm, 319, rfl⟩
abbrev main_v274 : Ref sig .tc := ⟨.hbm, 320, rfl⟩
abbrev main_v275 : Ref sig .tc := ⟨.hbm, 321, rfl⟩
abbrev main_v276 : Ref sig .tc := ⟨.hbm, 322, rfl⟩
abbrev main_v277 : Ref sig .tc := ⟨.hbm, 323, rfl⟩
abbrev main_v278 : Ref sig .tc := ⟨.hbm, 324, rfl⟩
abbrev main_v279 : Ref sig .tc := ⟨.hbm, 325, rfl⟩
abbrev main_v280 : Ref sig .tc := ⟨.hbm, 326, rfl⟩
abbrev main_v281 : Ref sig .tc := ⟨.hbm, 327, rfl⟩
abbrev main_v282 : Ref sig .tc := ⟨.hbm, 328, rfl⟩
abbrev main_v283 : Ref sig .tc := ⟨.hbm, 329, rfl⟩

abbrev nD : Nat := 1
abbrev τ : Topo := Topo.v7x

variable {F : FTy → Type} [FloatOps F]
-- ==== InProj.lean ====
abbrev S16x2048x2048 : Shape := ⟨3, ![16, 2048, 2048]⟩
abbrev S16x6x2048 : Shape := ⟨3, ![16, 6, 2048]⟩
abbrev S1x2048 : Shape := ⟨2, ![1, 2048]⟩
abbrev S1x2048x7184 : Shape := ⟨3, ![1, 2048, 7184]⟩
abbrev S2048x7184 : Shape := ⟨2, ![2048, 7184]⟩
abbrev S2048x7168 : Shape := ⟨2, ![2048, 7168]⟩
abbrev S2048x16 : Shape := ⟨2, ![2048, 16]⟩
abbrev S_ : Shape := ⟨0, ![]⟩
abbrev S2048x128 : Shape := ⟨2, ![2048, 128]⟩
abbrev S32768x2048 : Shape := ⟨2, ![32768, 2048]⟩
abbrev S2048 : Shape := ⟨1, ![2048]⟩
abbrev S32768x7168 : Shape := ⟨2, ![32768, 7168]⟩
abbrev S32768x128 : Shape := ⟨2, ![32768, 128]⟩
abbrev S1024x2048 : Shape := ⟨2, ![1024, 2048]⟩
abbrev S1x6x2048 : Shape := ⟨3, ![1, 6, 2048]⟩
abbrev S2048x1024 : Shape := ⟨2, ![2048, 1024]⟩
abbrev S1024x1024 : Shape := ⟨2, ![1024, 1024]⟩
abbrev S1024x128 : Shape := ⟨2, ![1024, 128]⟩
abbrev S1x1x2048 : Shape := ⟨3, ![1, 1, 2048]⟩
abbrev S1024 : Shape := ⟨1, ![1024]⟩
abbrev S1024x1 : Shape := ⟨2, ![1024, 1]⟩

abbrev nBuf : Space → Nat
  | .hbm => 18
  | .vmem => 13
  | .smem => 0
  | _ => 0

abbrev bufTy : (tb : Table) → Fin (tcTables nBuf tb) → BufTy
  | .hbm, ⟨0, _⟩ => ⟨S16x2048x2048, .f32⟩
  | .hbm, ⟨1, _⟩ => ⟨S16x6x2048, .f32⟩
  | .hbm, ⟨2, _⟩ => ⟨S1x2048, .f32⟩
  | .hbm, ⟨3, _⟩ => ⟨S1x2048x7184, .f32⟩
  | .hbm, ⟨4, _⟩ => ⟨S2048x7184, .f32⟩
  | .hbm, ⟨5, _⟩ => ⟨S2048x7168, .f32⟩
  | .hbm, ⟨6, _⟩ => ⟨S2048x7168, .bf16⟩
  | .hbm, ⟨7, _⟩ => ⟨S2048x7184, .f32⟩
  | .hbm, ⟨8, _⟩ => ⟨S2048x16, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S2048x128, .bf16⟩
  | .hbm, ⟨13, _⟩ => ⟨S32768x2048, .f32⟩
  | .hbm, ⟨14, _⟩ => ⟨S2048, .f32⟩
  | .hbm, ⟨15, _⟩ => ⟨S1x2048, .f32⟩
  | .hbm, ⟨16, _⟩ => ⟨S32768x7168, .bf16⟩
  | .hbm, ⟨17, _⟩ => ⟨S32768x128, .f32⟩
  | .local _ .vmem, ⟨0, _⟩ => ⟨S1024x2048, .f32⟩
  | .local _ .vmem, ⟨1, _⟩ => ⟨S1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S2048x1024, .bf16⟩
  | .local _ .vmem, ⟨6, _⟩ => ⟨S2048x1024, .bf16⟩
  | .local _ .vmem, ⟨7, _⟩ => ⟨S2048x128, .bf16⟩
  | .local _ .vmem, ⟨8, _⟩ => ⟨S1024x1024, .bf16⟩
  | .local _ .vmem, ⟨9, _⟩ => ⟨S1024x1024, .bf16⟩
  | .local _ .vmem, ⟨10, _⟩ => ⟨S1024x128, .f32⟩
  | .local _ .vmem, ⟨11, _⟩ => ⟨S1024x128, .f32⟩
  | .local _ .vmem, ⟨12, _⟩ => ⟨S1024x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== InProjRefIdeal.lean ====
abbrev S16x2048x2048 : Shape := ⟨3, ![16, 2048, 2048]⟩
abbrev S16x6x2048 : Shape := ⟨3, ![16, 6, 2048]⟩
abbrev S1x2048 : Shape := ⟨2, ![1, 2048]⟩
abbrev S1x2048x7184 : Shape := ⟨3, ![1, 2048, 7184]⟩
abbrev S_ : Shape := ⟨0, ![]⟩
abbrev S16x2048 : Shape := ⟨2, ![16, 2048]⟩
abbrev S16x2048x1 : Shape := ⟨3, ![16, 2048, 1]⟩
abbrev S2048 : Shape := ⟨1, ![2048]⟩
abbrev S1x1x2048 : Shape := ⟨3, ![1, 1, 2048]⟩
abbrev S16x1x2048 : Shape := ⟨3, ![16, 1, 2048]⟩
abbrev S2048x7184 : Shape := ⟨2, ![2048, 7184]⟩
abbrev S16x2048x7184 : Shape := ⟨3, ![16, 2048, 7184]⟩
abbrev S32768x7184 : Shape := ⟨2, ![32768, 7184]⟩
abbrev S32768x7168 : Shape := ⟨2, ![32768, 7168]⟩
abbrev S32768x16 : Shape := ⟨2, ![32768, 16]⟩
abbrev S32768x128 : Shape := ⟨2, ![32768, 128]⟩

abbrev nBuf : Space → Nat
  | .hbm => 39
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x6x2048, .f32⟩
  | .hbm, ⟨2, _⟩ => ⟨S1x2048, .f32⟩
  | .hbm, ⟨3, _⟩ => ⟨S1x2048x7184, .f32⟩
  | .hbm, ⟨4, _⟩ => ⟨S16x2048x2048, .f32⟩
  | .hbm, ⟨5, _⟩ => ⟨S_, .f32⟩
  | .hbm, ⟨6, _⟩ => ⟨S16x2048, .f32⟩
  | .hbm, ⟨7, _⟩ => ⟨S16x2048x1, .f32⟩
  | .hbm, ⟨8, _⟩ => ⟨S_, .f32⟩
  | .hbm, ⟨9, _⟩ => ⟨S16x2048x1, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S16x2048x1, .f32⟩
  | .hbm, ⟨15, _⟩ => ⟨S16x2048x2048, .f32⟩
  | .hbm, ⟨16, _⟩ => ⟨S16x2048x2048, .f32⟩
  | .hbm, ⟨17, _⟩ => ⟨S2048, .f32⟩
  | .hbm, ⟨18, _⟩ => ⟨S1x1x2048, .f32⟩
  | .hbm, ⟨19, _⟩ => ⟨S16x2048x2048, .f32⟩
  | .hbm, ⟨20, _⟩ => ⟨S16x2048x2048, .f32⟩
  | .hbm, ⟨21, _⟩ => ⟨S16x1x2048, .f32⟩
  | .hbm, ⟨22, _⟩ => ⟨S_, .f32⟩
  | .hbm, ⟨23, _⟩ => ⟨S16x1x2048, .f32⟩
  | .hbm, ⟨24, _⟩ => ⟨S16x1x2048, .f32⟩
  | .hbm, ⟨25, _⟩ => ⟨S16x2048x2048, .f32⟩
  | .hbm, ⟨26, _⟩ => ⟨S16x2048x2048, .f32⟩
  | .hbm, ⟨27, _⟩ => ⟨S16x1x2048, .f32⟩
  | .hbm, ⟨28, _⟩ => ⟨S16x2048x2048, .f32⟩
  | .hbm, ⟨29, _⟩ => ⟨S16x2048x2048, .f32⟩
  | .hbm, ⟨30, _⟩ => ⟨S2048x7184, .f32⟩
  | .hbm, ⟨31, _⟩ => ⟨S16x2048x7184, .f32⟩
  | .hbm, ⟨32, _⟩ => ⟨S32768x7184, .f32⟩
  | .hbm, ⟨33, _⟩ => ⟨S32768x7168, .f32⟩
  | .hbm, ⟨34, _⟩ => ⟨S32768x7168, .bf16⟩
  | .hbm, ⟨35, _⟩ => ⟨S32768x16, .f32⟩
  | .hbm, ⟨36, _⟩ => ⟨S_, .i32⟩
  | .hbm, ⟨37, _⟩ => ⟨S_, .f32⟩
  | .hbm, ⟨38, _⟩ => ⟨S32768x128, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c : Ref sig .tc := ⟨.hbm, 36, rfl⟩
abbrev main_call0_v0 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Proof.SsdSpec.lean ====
/-
  The chunked state-space recurrence of one batch row and one group of two heads, written over the extended reals with
  plain functions: what a row of a chunk computes from the chunk's inputs and the state entering it.
-/
module

public import Idealize.ShloMosaic.PureOps.Ideal
public import Idealize.ShloMosaic.Lib.Pointwise

set_option maxRecDepth 16384

@[expose] public section

noncomputable section

namespace Cert.SsdSpec

open Idealize.ShloMosaic

/-- `y · σ(y)`. -/
def silu (y : EReal) : EReal := y * Ideal.logistic y

/-- The softplus, as `max y 0 + log (1 + e^{-|y|})`. -/
def softplus (y : EReal) : EReal := max y 0 + Ideal.log1p (Ideal.exp (-(max y (-y))))

/-- A column of the sequence read `3 - j` rows back, zero before the first row. -/
def tap (x : Fin 2048 → EReal) (t : Fin 2048) (j : Fin 4) : EReal :=
  if h : 3 ≤ t.val + j.val then x ⟨t.val + j.val - 3, by omega⟩ else 0

/-- The causal depthwise convolution of width four, its bias and the SiLU after it. -/
def conv (w : Fin 4 → EReal) (bb : EReal) (x : Fin 2048 → EReal) (t : Fin 2048) : EReal :=
  silu (w 0 * tap x t 0 + w 1 * tap x t 1 + w 2 * tap x t 2 + w 3 * tap x t 3 + bb)

/-- Row `l` of chunk `c`. -/
def row (c : ℕ) (l : Fin 128) : Fin 2048 := ⟨(128 * c + l.val) % 2048, Nat.mod_lt _ (by norm_num)⟩

/-- The head (of the group's two) that lane `q` belongs to. -/
def hd (q : Fin 128) : Fin 2 := if 64 ≤ q.val then 1 else 0

/-- The running sum of the log decays within a chunk, up to and including row `l`. -/
def acs (da : Fin 128 → EReal) (l : Fin 128) : EReal := ∑ s : Fin 128, if s.val ≤ l.val then da s else 0

/-- The decay from row `s` to row `l` of a chunk: zero when `s` comes after `l`. -/
def decay (da : Fin 128 → EReal) (l s : Fin 128) : EReal :=
  Ideal.exp (if s.val ≤ l.val then acs da l - acs da s else ⊥)

/-- One row's output inside the chunk: the chunk's own contribution, the entering state's, and the skip. -/
def ssdRow (X B C : Fin 128 → Fin 128 → EReal) (dt da : Fin 2 → Fin 128 → EReal) (D : Fin 128 → EReal)
    (prev : Fin 128 → Fin 128 → EReal) (l q : Fin 128) : EReal :=
  (∑ s : Fin 128, ((∑ n : Fin 128, C l n * B s n) * decay (da (hd q)) l s) * (X s q * dt (hd q) s))
    + (∑ n : Fin 128, C l n * prev n q) * Ideal.exp (acs (da (hd q)) l) + D q * X l q

/-- The state leaving the chunk. -/
def nextState (X B : Fin 128 → Fin 128 → EReal) (dt da : Fin 2 → Fin 128 → EReal)
    (prev : Fin 128 → Fin 128 → EReal) (n q : Fin 128) : EReal :=
  prev n q * Ideal.exp (acs (da (hd q)) 127)
    + ∑ l : Fin 128, B l n * ((X l q * dt (hd q) l) * Ideal.exp (acs (da (hd q)) 127 - acs (da (hd q)) l))

/-- The gated row. -/
def gated (y : Fin 128 → EReal) (Z : Fin 128 → EReal) (q : Fin 128) : EReal := y q * silu (Z q)

/-- The grouped RMS norm of a row and its weight; `eps` is the printed word's rational. -/
def normed (y : Fin 128 → EReal) (NW : Fin 128 → EReal) (q : Fin 128) : EReal :=
  y q * Ideal.rsqrt (Ideal.div (∑ k : Fin 128, y k * y k) (Ideal.ofBits .f32 0x43000000#32)
    + Ideal.ofBits .f32 0x358637BD#32) * NW q

/-- The state entering chunk `c`. -/
def entering (X B : Fin 2048 → Fin 128 → EReal) (dt da : Fin 2 → Fin 2048 → EReal) : ℕ → Fin 128 → Fin 128 → EReal
  | 0 => fun _ _ => 0
  | c + 1 => nextState (fun l => X (row c l)) (fun l => B (row c l)) (fun h l => dt h (row c l))
      (fun h l => da h (row c l)) (entering X B dt da c)

/-- Row `l` of chunk `c`, lane `q`, of the layer's result for one batch row and one group. -/
def result (X B C Z : Fin 2048 → Fin 128 → EReal) (dt da : Fin 2 → Fin 2048 → EReal) (D NW : Fin 128 → EReal)
    (c : ℕ) (l q : Fin 128) : EReal :=
  normed (gated (ssdRow (fun l => X (row c l)) (fun l => B (row c l)) (fun l => C (row c l))
    (fun h l => dt h (row c l)) (fun h l => da h (row c l)) D (entering X B dt da c) l) (Z (row c l))) NW q

end Cert.SsdSpec

end
-- ==== Proof.SsdTrip.lean ====
/-
  One chunk of the recurrence as the kernel computes it, read element by element: the state it yields and the rows it
  stores are `Cert.SsdSpec.nextState` and the gated, normed `Cert.SsdSpec.ssdRow`.
-/
module

public import Idealize.ShloMosaic.Lib.Pointwise
public import proofs.«01_k».proof.Proof.Gen.SsdIdeal.Skeleton
public import proofs.«01_k».proof.Proof.SsdSpec

set_option maxRecDepth 16384

@[expose] public section

noncomputable section

namespace Cert.SsdIdeal.Val

open Idealize.ShloMosaic Idealize.SL.Sem Cert.SsdIdeal.Gen Cert.SsdSpec

/-! ## Masks and literals -/

theorem toInt_fin {n : ℕ} (hn : n ≤ 4096) (x : Fin n) : (BitVec.ofNat 32 x.val).toInt = (x.val : ℤ) := by
  rw [BitVec.toInt_ofNat']
  have h : x.val < 4096 := lt_of_lt_of_le x.isLt hn
  rw [Int.bmod_def]
  split <;> omega

theorem sle_fin (x l : Fin 128) :
    IntOp.cmpi .sle (BitVec.ofNat 32 x.val) (BitVec.ofNat 32 l.val) = BitVec.ofBool (decide (x.val ≤ l.val)) := by
  show BitVec.ofBool ((BitVec.ofNat 32 x.val).sle (BitVec.ofNat 32 l.val)) = _
  rw [BitVec.sle, toInt_fin (by norm_num), toInt_fin (by norm_num)]
  simp

theorem eq_word {x : Fin 128} {w : BitVec 32} {y : Fin 128} (h : w = BitVec.ofNat 32 y.val) :
    IntOp.cmpi .eq (BitVec.ofNat 32 x.val) w = BitVec.ofBool (decide (x = y)) := by
  subst h
  show BitVec.ofBool (BitVec.ofNat 32 x.val == BitVec.ofNat 32 y.val) = _
  congr 1
  rw [Bool.eq_iff_iff, beq_iff_eq, decide_eq_true_iff]
  constructor
  · intro h
    have := congrArg BitVec.toInt h
    rw [toInt_fin (by norm_num), toInt_fin (by norm_num)] at this
    exact Fin.ext (by exact_mod_cast this)
  · rintro rfl; rfl

theorem sge_64 (x : Fin 128) :
    IntOp.cmpi .sge (BitVec.ofNat 32 x.val) 64#32 = BitVec.ofBool (decide (64 ≤ x.val)) := by
  show BitVec.ofBool ((64#32).sle (BitVec.ofNat 32 x.val)) = _
  rw [BitVec.sle, toInt_fin (by norm_num)]
  simp

theorem mask_val (p : Prop) [Decidable p] :
    (FloatOps.sitofp (F := Ideal) .f32 (BitVec.setWidth 32 (BitVec.ofBool (decide p)))) = if p then (1 : EReal) else 0 := by
  show (((BitVec.setWidth 32 (BitVec.ofBool (decide p))).toInt : ℝ) : EReal) = _
  by_cases h : p <;> simp [h]

theorem negInf : Ideal.ofBits .f32 0xFF800000#32 = ⊥ := by
  simp [Ideal.ofBits, Ideal.ieee]

/-- The lane holding head `h` of group `g`. -/
def lane (g : Fin 8) (h : Fin 2) : Fin 128 := ⟨2 * g.val + h.val, by omega⟩

theorem lane_word0 (g : Fin 8) :
    Scalar.addi (Scalar.muli (2#32) (BitVec.ofNat 32 g.val)) 0#32 = BitVec.ofNat 32 (lane g 0).val := by
  fin_cases g <;> rfl

theorem lane_word1 (g : Fin 8) :
    Scalar.addi (Scalar.muli (2#32) (BitVec.ofNat 32 g.val)) 1#32 = BitVec.ofNat 32 (lane g 1).val := by
  fin_cases g <;> rfl

/-! ## The running sum by three products with the lower triangle -/

theorem sub_self_cases {v : EReal} (hv : v ≠ ⊤) : v - v = 0 ∨ (v = ⊥ ∧ v - v = ⊥) := by
  induction v with
  | bot => right; exact ⟨rfl, rfl⟩
  | coe r => left; rw [← EReal.coe_sub, sub_self]; rfl
  | top => exact absurd rfl hv

/-- Adding to a finite sum of values another sum that is everywhere zero, or `⊥` only where the value is `⊥`,
    changes nothing. -/
theorem sum_add_absorb {ι : Type} [Fintype ι] (f e : ι → EReal) (h : ∀ i, e i = 0 ∨ (f i = ⊥ ∧ e i = ⊥)) :
    (∑ i, f i) + ∑ i, e i = ∑ i, f i := by
  by_cases hb : ∃ i, f i = ⊥
  · obtain ⟨i, hi⟩ := hb
    have : ∑ i, f i = ⊥ := by
      classical
      rw [← Finset.add_sum_erase _ _ (Finset.mem_univ i), hi, EReal.bot_add]
    rw [this, EReal.bot_add]
  · have : ∀ i, e i = 0 := fun i => (h i).resolve_right fun hh => hb ⟨i, hh.1⟩
    simp [this]

theorem split_cases {v : EReal} (hv : v ≠ ⊤) :
    (v - v - (v - v) = 0) ∨ (v = ⊥ ∧ v - v - (v - v) = ⊥) := by
  rcases sub_self_cases hv with h | ⟨h, h'⟩
  · left; rw [h]; simp
  · right; subst h; exact ⟨rfl, rfl⟩

theorem pay13_eq (DA : FVec Ideal S128x128 .f32) (l q : Fin 128) (hDA : ∀ s, DA (ix2 s q) ≠ ⊤) :
    k0_pay13 (F := Ideal) k0_pay6 DA (ix2 l q) = acs (fun s => DA (ix2 s q)) l := by
  pointwise [k0_pay13, k0_pay6, k0_pay4]
  simp only [sle_fin, mask_val]
  rw [sum_add_absorb, sum_add_absorb]
  · unfold acs
    exact Finset.sum_congr rfl fun s _ => by split <;> simp
  · intro s
    by_cases h : s.val ≤ l.val
    · simpa [h] using split_cases (hDA s)
    · simp [h]
  · intro s
    by_cases h : s.val ≤ l.val
    · simpa [h] using sub_self_cases (hDA s)
    · simp [h]

theorem pay14_eq (DA : FVec Ideal S128x128 .f32) (q : Fin 128) (hDA : ∀ s, DA (ix2 s q) ≠ ⊤) :
    k0_pay14 (F := Ideal) k0_pay6 DA (ix2 0 q) = acs (fun s => DA (ix2 s q)) 127 := by
  rw [← pay13_eq DA 127 q hDA]
  pointwise [k0_pay14]

/-! ## A column picked out of a tile by its lane -/

abbrev lanes : IVec S128x128 32 := iota .tc S128x128 32 [1] iota_S128x128_d1_w32
abbrev lanesRow : IVec S1x128 32 := iota .tc S1x128 32 [1] iota_S1x128_d1_w32

theorem pay16_eq (g : Fin 8) (V : FVec Ideal S128x128 .f32) (l : Fin 128) :
    k0_pay16 (F := Ideal) (BitVec.ofNat 32 g.val) lanes V (ix2 l 0) = V (ix2 l (lane g 0)) := by
  pointwise [k0_pay16]
  simp only [eq_word (lane_word0 g), Scalar.select_ofBool, decide_eq_true_eq]
  simp

theorem pay20_eq (g : Fin 8) (V : FVec Ideal S128x128 .f32) (l : Fin 128) :
    k0_pay20 (F := Ideal) (BitVec.ofNat 32 g.val) lanes V (ix2 l 0) = V (ix2 l (lane g 1)) := by
  pointwise [k0_pay20]
  simp only [eq_word (lane_word1 g), Scalar.select_ofBool, decide_eq_true_eq]
  simp

theorem pay17_eq (g : Fin 8) (DA : FVec Ideal S128x128 .f32) (l : Fin 128) :
    k0_pay17 (F := Ideal) (BitVec.ofNat 32 g.val) k0_pay6 lanes DA (ix2 l 0) = k0_pay13 k0_pay6 DA (ix2 l (lane g 0)) := by
  pointwise [k0_pay17]
  simp only [eq_word (lane_word0 g), Scalar.select_ofBool, decide_eq_true_eq]
  simp

theorem pay21_eq (g : Fin 8) (V : FVec Ideal S128x128 .f32) (l : Fin 128) :
    k0_pay21 (F := Ideal) (BitVec.ofNat 32 g.val) lanes V (ix2 l 0) = V (ix2 l (lane g 1)) := by
  pointwise [k0_pay21]
  simp only [eq_word (lane_word1 g), Scalar.select_ofBool, decide_eq_true_eq]
  simp

theorem pay19_eq (g : Fin 8) (V : FVec Ideal S1x128 .f32) :
    k0_pay19 (F := Ideal) lanesRow V (Scalar.addi (Scalar.muli (2#32) (BitVec.ofNat 32 g.val)) 0#32) (ix2 0 0)
      = V (ix2 0 (lane g 0)) := by
  pointwise [k0_pay19]
  simp only [eq_word (lane_word0 g), Scalar.select_ofBool, decide_eq_true_eq]
  simp

theorem pay24_eq (g : Fin 8) (V : FVec Ideal S1x128 .f32) :
    k0_pay24 (F := Ideal) lanesRow V (Scalar.addi (Scalar.muli (2#32) (BitVec.ofNat 32 g.val)) 1#32) (ix2 0 0)
      = V (ix2 0 (lane g 1)) := by
  pointwise [k0_pay24]
  simp only [eq_word (lane_word1 g), Scalar.select_ofBool, decide_eq_true_eq]
  simp

/-- Between two per-head values, the one of the lane's head. -/
theorem sel_head (q : Fin 128) (f : Fin 2 → EReal) :
    Scalar.select (IntOp.cmpi .sge (BitVec.ofNat 32 q.val) 64#32) (f 1) (f 0) = f (hd q) := by
  rw [sge_64, Scalar.select_ofBool]
  unfold hd
  by_cases h : 64 ≤ q.val <;> simp [h]

/-! ## The tile's results -/

/-- What one trip stores: the rows of its chunk. -/
def tileOut (w : BitVec 32) (lns : IVec S128x128 32) (acc X B C DT DA : FVec Ideal S128x128 .f32)
    (Z : FVec Ideal S128x128 .bf16) (D NW : FVec Ideal S1x128 .f32) : FVec Ideal S128x128 .bf16 :=
  k0_pay9
    (k0_pay28 k0_pay4 k0_pay7 acc X (k0_pay12 C) (k0_pay15 B C) (k0_pay17 w k0_pay6 lns DA)
      (k0_pay18 k0_pay4 k0_pay5 X (k0_pay15 B C) (k0_pay16 w lns DT) (k0_pay17 w k0_pay6 lns DA) (Scalar.ofBits .f32 0x00000000#32))
      (k0_pay20 w lns DT) (k0_pay21 w lns (k0_pay13 k0_pay6 DA)) (k0_pay22 w lns (k0_pay13 k0_pay6 DA))
      (k0_pay23 w k0_pay5 lns (k0_pay13 k0_pay6 DA)) D Z)
    (k0_pay29 k0_pay4 k0_pay7 acc X (k0_pay12 C) (k0_pay15 B C) (k0_pay17 w k0_pay6 lns DA)
      (k0_pay18 k0_pay4 k0_pay5 X (k0_pay15 B C) (k0_pay16 w lns DT) (k0_pay17 w k0_pay6 lns DA) (Scalar.ofBits .f32 0x00000000#32))
      (k0_pay20 w lns DT) (k0_pay21 w lns (k0_pay13 k0_pay6 DA)) (k0_pay22 w lns (k0_pay13 k0_pay6 DA))
      (k0_pay23 w k0_pay5 lns (k0_pay13 k0_pay6 DA)) D Z)
    NW

/-- What one trip yields: the state leaving its chunk. -/
def tileNext (w : BitVec 32) (lns : IVec S128x128 32) (lnsRow : IVec S1x128 32) (acc X B DT DA : FVec Ideal S128x128 .f32) :
    FVec Ideal S128x128 .f32 :=
  k0_pay10 acc (k0_pay11 B)
    (k0_pay19 lnsRow (k0_pay14 k0_pay6 DA) (Scalar.addi (Scalar.muli 2#32 w) 0#32))
    (k0_pay24 lnsRow (k0_pay14 k0_pay6 DA) (Scalar.addi (Scalar.muli 2#32 w) 1#32))
    (k0_pay25 k0_pay7 (k0_pay17 w k0_pay6 lns DA) (k0_pay21 w lns (k0_pay13 k0_pay6 DA)))
    (k0_pay26 lnsRow k0_pay7 (k0_pay14 k0_pay6 DA)
      (k0_pay19 lnsRow (k0_pay14 k0_pay6 DA) (Scalar.addi (Scalar.muli 2#32 w) 0#32))
      (Scalar.addi (Scalar.muli 2#32 w) 1#32))
    (k0_pay27 k0_pay7 X (k0_pay16 w lns DT) (k0_pay20 w lns DT))

variable (g : Fin 8) (acc X B C DT DA : FVec Ideal S128x128 .f32) (Z : FVec Ideal S128x128 .bf16)
  (D NW : FVec Ideal S1x128 .f32)

/-- A tile of values as a function of row and lane. -/
abbrev fn (V : FVec Ideal S128x128 .f32) (l q : Fin 128) : EReal := V (ix2 l q)
/-- The two heads' columns of a tile. -/
abbrev heads (V : FVec Ideal S128x128 .f32) (h : Fin 2) (l : Fin 128) : EReal := V (ix2 l (lane g h))

theorem acsB_eq (l q : Fin 128) (hDA : ∀ s r, DA (ix2 s r) ≠ ⊤) :
    k0_pay25 (F := Ideal) k0_pay7 (k0_pay17 (BitVec.ofNat 32 g.val) k0_pay6 lanes DA)
      (k0_pay21 (BitVec.ofNat 32 g.val) lanes (k0_pay13 k0_pay6 DA)) (ix2 l q) = acs (heads g DA (hd q)) l := by
  pointwise [k0_pay25, k0_pay7]
  rw [pay17_eq, pay21_eq, pay13_eq _ _ _ fun s => hDA s _, pay13_eq _ _ _ fun s => hDA s _]
  exact sel_head q fun h => acs (heads g DA h) l

theorem lastB_eq (l q : Fin 128) (hDA : ∀ s r, DA (ix2 s r) ≠ ⊤) :
    k0_pay26 (F := Ideal) lanesRow k0_pay7 (k0_pay14 k0_pay6 DA)
      (k0_pay19 lanesRow (k0_pay14 k0_pay6 DA) (Scalar.addi (Scalar.muli 2#32 (BitVec.ofNat 32 g.val)) 0#32))
      (Scalar.addi (Scalar.muli 2#32 (BitVec.ofNat 32 g.val)) 1#32) (ix2 l q) = acs (heads g DA (hd q)) 127 := by
  pointwise [k0_pay26, k0_pay7]
  rw [pay19_eq, pay24_eq, pay14_eq _ _ fun s => hDA s _, pay14_eq _ _ fun s => hDA s _]
  exact sel_head q fun h => acs (heads g DA h) 127

theorem xdt_eq (l q : Fin 128) :
    k0_pay27 (F := Ideal) k0_pay7 X (k0_pay16 (BitVec.ofNat 32 g.val) lanes DT)
      (k0_pay20 (BitVec.ofNat 32 g.val) lanes DT) (ix2 l q) = X (ix2 l q) * heads g DT (hd q) l := by
  pointwise [k0_pay27, k0_pay7]
  rw [pay16_eq, pay20_eq]
  congr 1
  exact sel_head q fun h => heads g DT h l

/-- The state a trip yields is the recurrence's next state. -/
theorem tileNext_eq (n q : Fin 128) (hDA : ∀ s r, DA (ix2 s r) ≠ ⊤) :
    tileNext (BitVec.ofNat 32 g.val) lanes lanesRow acc X B DT DA (ix2 n q)
      = nextState (fn X) (fn B) (heads g DT) (heads g DA) (fn acc) n q := by
  unfold tileNext nextState
  pointwise [k0_pay10, k0_pay11]
  simp only [acsB_eq g DA _ _ hDA, lastB_eq g DA _ _ hDA, xdt_eq g X DT]
  rw [pay19_eq, pay24_eq, pay14_eq _ _ fun s => hDA s _, pay14_eq _ _ fun s => hDA s _]
  congr 3
  exact sel_head q fun h => acs (heads g DA h) 127

theorem cb_eq (l s : Fin 128) :
    k0_pay15 (F := Ideal) B C (ix2 l s) = ∑ n : Fin 128, C (ix2 l n) * B (ix2 s n) := by
  pointwise [k0_pay15, k0_pay11, k0_pay12]

theorem mask_sum (x : Fin 128) (f : Fin 128 → EReal) :
    ∑ y : Fin 128, Scalar.select (IntOp.cmpi .eq (BitVec.ofNat 32 x.val) (BitVec.ofNat 32 y.val)) (f y) 0 = f x := by
  simp only [eq_word rfl, Scalar.select_ofBool, decide_eq_true_eq]
  simp

/-- Head 0's part of the chunk's own contribution. -/
theorem diag0_eq (l : Fin 128) (q : Fin 64) (hDA : ∀ s r, DA (ix2 s r) ≠ ⊤) :
    k0_pay18 (F := Ideal) k0_pay4 k0_pay5 X (k0_pay15 B C) (k0_pay16 (BitVec.ofNat 32 g.val) lanes DT)
      (k0_pay17 (BitVec.ofNat 32 g.val) k0_pay6 lanes DA) (Scalar.ofBits .f32 0x00000000#32) (ix2 l q)
      = ∑ s : Fin 128, ((∑ n : Fin 128, C (ix2 l n) * B (ix2 s n)) * decay (heads g DA 0) l s)
          * (X (ix2 s ⟨q.val, by omega⟩) * heads g DT 0 s) := by
  pointwise [k0_pay18, k0_pay4, k0_pay5]
  simp only [mask_sum _ fun y => k0_pay17 (F := Ideal) (BitVec.ofNat 32 g.val) k0_pay6 lanes DA (ix2 y 0)]
  simp only [cb_eq, pay16_eq, pay17_eq, pay13_eq _ _ _ fun s => hDA s _, sle_fin, Scalar.select_ofBool, decide_eq_true_eq, negInf]
  rfl

/-- The gated row over the values its operations read, at lane `q`. -/
theorem pay28_apply (v178 : FVec Ideal S128x128 .bf16) (v196 : FVec Ideal S128x128 .f32) (v210 v243 v249 : FVec Ideal S128x1 .f32)
    (v229 : FVec Ideal S128x64 .f32) (v256 v257 : FVec Ideal S128x128 .f32) (l q : Fin 128) :
    k0_pay28 (F := Ideal) k0_pay4 k0_pay7 acc X v178 v196 v210 v229 v243 v249 v256 v257 D Z (ix2 l q) =
      ((if h : q.val < 64 then v229 (ix2 l ⟨q.val, h⟩)
          else ∑ x : Fin 128, v196 (ix2 l x) * Ideal.exp (if x.val ≤ l.val then v256 (ix2 l x) - v257 (ix2 l x) else ⊥)
            * (X (ix2 x q) * v243 (ix2 x 0)))
        + (∑ x : Fin 128, v178 (ix2 l x) * acc (ix2 x q)) * Ideal.exp (k0_pay25 k0_pay7 v210 v249 (ix2 l q))
        + D (ix2 0 q) * X (ix2 l q)) * silu (Z (ix2 l q)) := by
  unfold silu
  pointwise [k0_pay28, k0_pay4]
  simp only [sle_fin, Scalar.select_ofBool, decide_eq_true_eq, negInf]
  split
  · rfl
  · rename_i h
    have hq : ∀ hh, (⟨64 + (q.val - 64), hh⟩ : Fin 128) = q := fun _ => Fin.ext (by simp only; omega)
    simp only [hq]

theorem pay22_eq (l s : Fin 128) (hDA : ∀ s r, DA (ix2 s r) ≠ ⊤) :
    k0_pay22 (F := Ideal) (BitVec.ofNat 32 g.val) lanes (k0_pay13 k0_pay6 DA) (ix2 l s) = acs (heads g DA 1) l := by
  pointwise [k0_pay22]
  rw [pay21_eq, pay13_eq _ _ _ fun s => hDA s _]

theorem pay23_eq (l s : Fin 128) (hDA : ∀ s r, DA (ix2 s r) ≠ ⊤) :
    k0_pay23 (F := Ideal) (BitVec.ofNat 32 g.val) k0_pay5 lanes (k0_pay13 k0_pay6 DA) (ix2 l s) = acs (heads g DA 1) s := by
  pointwise [k0_pay23, k0_pay5]
  rw [mask_sum _ fun y => k0_pay21 (F := Ideal) (BitVec.ofNat 32 g.val) lanes (k0_pay13 k0_pay6 DA) (ix2 y 0)]
  rw [pay21_eq, pay13_eq _ _ _ fun s => hDA s _]

/-- A row of a trip before the norm is the recurrence's, gated. -/
theorem tile_gated (l q : Fin 128) (hDA : ∀ s r, DA (ix2 s r) ≠ ⊤) :
    k0_pay28 (F := Ideal) k0_pay4 k0_pay7 acc X (k0_pay12 C) (k0_pay15 B C) (k0_pay17 (BitVec.ofNat 32 g.val) k0_pay6 lanes DA)
      (k0_pay18 k0_pay4 k0_pay5 X (k0_pay15 B C) (k0_pay16 (BitVec.ofNat 32 g.val) lanes DT)
        (k0_pay17 (BitVec.ofNat 32 g.val) k0_pay6 lanes DA) (Scalar.ofBits .f32 0x00000000#32))
      (k0_pay20 (BitVec.ofNat 32 g.val) lanes DT) (k0_pay21 (BitVec.ofNat 32 g.val) lanes (k0_pay13 k0_pay6 DA))
      (k0_pay22 (BitVec.ofNat 32 g.val) lanes (k0_pay13 k0_pay6 DA))
      (k0_pay23 (BitVec.ofNat 32 g.val) k0_pay5 lanes (k0_pay13 k0_pay6 DA)) D Z (ix2 l q)
      = gated (ssdRow (fn X) (fn B) (fn C) (heads g DT) (heads g DA) (fun q => D (ix2 0 q)) (fn acc) l)
          (fun q => Z (ix2 l q)) q := by
  rw [pay28_apply, acsB_eq g DA _ _ hDA]
  simp only [pay22_eq g DA _ _ hDA, pay23_eq g DA _ _ hDA, cb_eq, pay20_eq]
  unfold gated ssdRow
  congr 3
  by_cases h : q.val < 64
  · have hh : hd q = 0 := by unfold hd; rw [if_neg (by omega)]
    rw [dif_pos h, diag0_eq g X B C DT DA _ _ hDA, hh]
  · have hh : hd q = 1 := by unfold hd; rw [if_pos (by omega)]
    rw [dif_neg h, hh]
    rfl

theorem pay9_apply (u v : FVec Ideal S128x128 .f32) (l q : Fin 128) :
    k0_pay9 (F := Ideal) u v NW (ix2 l q) = u (ix2 l q) * Ideal.rsqrt (Ideal.div (∑ k : Fin 128, v (ix2 l k))
      (Ideal.ofBits .f32 0x43000000#32) + Ideal.ofBits .f32 0x358637BD#32) * NW (ix2 0 q) := by
  pointwise [k0_pay9]

/-- The rows a trip stores are the recurrence's, gated and normed. -/
theorem tileOut_eq (l q : Fin 128) (hDA : ∀ s r, DA (ix2 s r) ≠ ⊤) :
    tileOut (BitVec.ofNat 32 g.val) lanes acc X B C DT DA Z D NW (ix2 l q)
      = normed (gated (ssdRow (fn X) (fn B) (fn C) (heads g DT) (heads g DA) (fun q => D (ix2 0 q)) (fn acc) l)
          (fun q => Z (ix2 l q))) (fun q => NW (ix2 0 q)) q := by
  unfold tileOut normed k0_pay29
  rw [pay9_apply]
  simp only [mulf_apply, tile_gated g acc X B C DT DA Z D _ _ hDA]
  rfl

end Cert.SsdIdeal.Val

end
-- ==== Proof.SsdLoop.lean ====
/-
  The kernel's counted loop over the sixteen chunks of one batch row and one group, read from its trips: the state before
  a trip is the recurrence's state entering that chunk, and the pieces the trips store are the recurrence's rows.
-/
module

public import Idealize.ShloMosaic.Lib.Pointwise
public import Idealize.ShloMosaic.Lib.WritesUnit
public import Idealize.ShloMosaic.Lib.Pipeline.FrameBody
public import proofs.«01_k».proof.Proof.Gen.SsdIdeal.Loops
public import proofs.«01_k».proof.Proof.SsdTrip

set_option maxRecDepth 16384

@[expose] public section

noncomputable section

namespace Cert.SsdIdeal.Val

open Idealize.ShloMosaic Idealize.SL.Sem Cert.SsdIdeal.Gen Idealize.ShloMosaic.TcCoe Idealize.ShloMosaic.Tactic
open Cert.SsdSpec

/-- The rows of chunk `k` of a block of 2048 rows. -/
def tile {α : Type} (X : S2048x128.Idx → α) (k : ℕ) : S128x128.Idx → α := fun j => X (ix2 (row k (j 0)) (j 1))

/-- A trip's tile begins at row `128 k`. -/
theorem off1_val : ∀ k : Fin k0_t1_loop.trips, k0_off1 k 0 = 128 * k.val ∧ k0_off1 k 1 = 0 := by decide +kernel

theorem trips_val : k0_t1_loop.trips = 16 := by decide +kernel

theorem idx_off1 (k : Fin k0_t1_loop.trips) (inb) (j : S128x128.Idx) :
    (Rect.unit (s := S2048x128) (k0_off1 k) S128x128.size inb).idx j = ix2 (row k.val (j 0)) (j 1) := by
  obtain ⟨h0, h1⟩ := off1_val k
  have hk : k.val < 16 := lt_of_lt_of_eq k.isLt trips_val
  have hj : (j 0).val < 128 := (j 0).isLt
  funext a
  apply Fin.ext
  match a with
  | ⟨0, _⟩ =>
    show k0_off1 k 0 + 1 * (j 0).val = (128 * k.val + (j 0).val) % 2048
    rw [h0]; omega
  | ⟨1, _⟩ =>
    show k0_off1 k 1 + 1 * (j 1).val = (j 1).val
    rw [h1]; omega

/-- A load of a trip's tile reads the chunk's rows. -/
theorem readAt_tile {e : EltTy} (v : View sig .tc .vmem S2048x128 e) (k : Fin k0_t1_loop.trips) (inb)
    (X : v.ty.Contents (Elt Ideal)) :
    v.readAt (Elt Ideal) (Rect.unit (s := S2048x128) (k0_off1 k) S128x128.size inb).toLoadRect X
      = tile (v.read (Elt Ideal) X) k.val :=
  funext fun j => congrArg (v.read (Elt Ideal) X) (idx_off1 k inb j)

/-- A load of a whole one-row buffer reads it. -/
theorem readAt_row {e : EltTy} (v : View sig .tc .vmem S1x128 e) (inb) (X : v.ty.Contents (Elt Ideal)) :
    v.readAt (Elt Ideal) (Rect.unit (s := S1x128) ![0, 0] S1x128.size inb).toLoadRect X = v.read (Elt Ideal) X :=
  funext fun j => congrArg (v.read (Elt Ideal) X) (funext fun a => Fin.ext (by
    match a with
    | ⟨0, _⟩ => show 0 + 1 * (j 0).val = (j 0).val; omega
    | ⟨1, _⟩ => show 0 + 1 * (j 1).val = (j 1).val; omega))

variable (𝒱 : Variants) (c : Dev nD) (bd : Option 𝒱.V) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S4x128 .f32) (harg7 : arg7.IsWhole) (arg8 : Memref sig .tc .vmem S4x128 .f32) (harg8 : arg8.IsWhole) (arg9 : Memref sig .tc .vmem S4x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S2048x128 .bf16) (harg17 : arg17.IsWhole) (arg18 : Memref sig .tc .vmem S2056x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x128 .f32) (harg21 : arg21.IsWhole) (arg22 : Memref sig .tc .vmem S2048x128 .f32) (harg22 : arg22.IsWhole) (arg23 : Memref sig .tc .vmem S2048x128 .f32) (harg23 : arg23.IsWhole) (g : Fin 8) (X_arg5 : BufTy.Contents (Elt Ideal) arg5.view.ty) (X_arg15 : BufTy.Contents (Elt Ideal) arg15.view.ty) (X_arg16 : BufTy.Contents (Elt Ideal) arg16.view.ty) (X_arg19 : BufTy.Contents (Elt Ideal) arg19.view.ty) (X_arg20 : BufTy.Contents (Elt Ideal) arg20.view.ty) (X_arg21 : BufTy.Contents (Elt Ideal) arg21.view.ty) (X_arg22 : BufTy.Contents (Elt Ideal) arg22.view.ty) (X_arg23 : BufTy.Contents (Elt Ideal) arg23.view.ty)

/-- What trip `k` yields, from the chunk's rows. -/
theorem tripR_eq (k : Fin k0_t1_loop.trips) (acc : FVec Ideal S128x128 .f32) : tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (BitVec.ofNat 32 g.val) lanes lanesRow X_arg5 X_arg15 X_arg16 X_arg19 X_arg20 X_arg21 X_arg22 X_arg23 k acc
    = tileNext (BitVec.ofNat 32 g.val) lanes lanesRow acc (tile (arg19.view.read (Elt Ideal) X_arg19) k.val) (tile (arg20.view.read (Elt Ideal) X_arg20) k.val)
        (tile (arg22.view.read (Elt Ideal) X_arg22) k.val) (tile (arg23.view.read (Elt Ideal) X_arg23) k.val) := by
  have hoff : ∀ inb, Rect.unit (s := S2048x128) (k0_off1 k) S128x128.size inb = Rect.unit (s := S2048x128) (k0_off1 k) S128x128.size (k0_off1_inb k) := fun _ => rfl
  rw [← readAt_tile arg19.view k (k0_off1_inb k), ← readAt_tile arg20.view k (k0_off1_inb k), ← readAt_tile arg22.view k (k0_off1_inb k),
    ← readAt_tile arg23.view k (k0_off1_inb k)]
  unfold tripR_k0_t1 trip_k0_t1
  dsimp only
  sl_unfold_words
  rfl

/-- What trip `k` stores: one piece, its tile of the output. -/
theorem tripL_eq (k : Fin k0_t1_loop.trips) (acc : FVec Ideal S128x128 .f32) : tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (BitVec.ofNat 32 g.val) lanes lanesRow X_arg5 X_arg15 X_arg16 X_arg19 X_arg20 X_arg21 X_arg22 X_arg23 k acc
    = [⟨Rect.unit (s := S2048x128) (k0_off1 k) S128x128.size (k0_off1_inb k),
        tileOut (BitVec.ofNat 32 g.val) lanes acc (tile (arg19.view.read (Elt Ideal) X_arg19) k.val) (tile (arg20.view.read (Elt Ideal) X_arg20) k.val)
        (tile (arg21.view.read (Elt Ideal) X_arg21) k.val)
        (tile (arg22.view.read (Elt Ideal) X_arg22) k.val) (tile (arg23.view.read (Elt Ideal) X_arg23) k.val)
        (tile (arg5.view.read (Elt Ideal) X_arg5) k.val) (arg15.view.read (Elt Ideal) X_arg15) (arg16.view.read (Elt Ideal) X_arg16)⟩] := by
  rw [← readAt_tile arg19.view k (k0_off1_inb k), ← readAt_tile arg20.view k (k0_off1_inb k), ← readAt_tile arg21.view k (k0_off1_inb k),
    ← readAt_tile arg22.view k (k0_off1_inb k), ← readAt_tile arg23.view k (k0_off1_inb k), ← readAt_tile arg5.view k (k0_off1_inb k),
    ← readAt_row arg15.view inb_S1x128_S1x128_0_0, ← readAt_row arg16.view inb_S1x128_S1x128_0_0]
  unfold tripL_k0_t1 trip_k0_t1
  dsimp only
  sl_unfold_words
  rfl

/-- The state before trip `k` is the recurrence's state entering chunk `k`. -/
theorem state_eq (init : FVec Ideal S128x128 .f32) (h0 : ∀ n q, init (ix2 n q) = 0)
    (hDA : ∀ i, arg23.view.read (Elt Ideal) X_arg23 i ≠ (⊤ : EReal)) : ∀ (k : ℕ), k ≤ 16 → ∀ n q : Fin 128,
    (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (BitVec.ofNat 32 g.val) lanes lanesRow X_arg5 X_arg15 X_arg16 X_arg19 X_arg20 X_arg21 X_arg22 X_arg23 init k).1 (ix2 n q)
      = entering (fun t q => arg19.view.read (Elt Ideal) X_arg19 (ix2 t q)) (fun t q => arg20.view.read (Elt Ideal) X_arg20 (ix2 t q))
          (fun h t => arg22.view.read (Elt Ideal) X_arg22 (ix2 t (lane g h))) (fun h t => arg23.view.read (Elt Ideal) X_arg23 (ix2 t (lane g h))) k n q
  | 0, _, n, q => h0 n q
  | k + 1, hk, n, q => by
    rw [st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (BitVec.ofNat 32 g.val) lanes lanesRow X_arg5 X_arg15 X_arg16 X_arg19 X_arg20 X_arg21 X_arg22 X_arg23 init ⟨k, lt_of_lt_of_eq hk trips_val.symm⟩]
    dsimp only
    rw [tripR_eq]
    rw [tileNext_eq _ _ _ _ _ _ _ _ fun s r => hDA _]
    show nextState _ _ _ _ (fun n q => (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (BitVec.ofNat 32 g.val) lanes lanesRow X_arg5 X_arg15 X_arg16 X_arg19 X_arg20 X_arg21 X_arg22 X_arg23 init k).1 (ix2 n q)) n q = nextState _ _ _ _ _ n q
    rw [show (fun n q => (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (BitVec.ofNat 32 g.val) lanes lanesRow X_arg5 X_arg15 X_arg16 X_arg19 X_arg20 X_arg21 X_arg22 X_arg23 init k).1 (ix2 n q)) = _ from
      funext fun n => funext fun q => state_eq init h0 hDA k (by omega) n q]
    rfl

/-- Every piece the trips before `k` store holds the recurrence's rows. -/
theorem pieces_eq (init : FVec Ideal S128x128 .f32) (h0 : ∀ n q, init (ix2 n q) = 0)
    (hDA : ∀ i, arg23.view.read (Elt Ideal) X_arg23 i ≠ (⊤ : EReal)) : ∀ (k : ℕ), k ≤ 16 → ∀ p ∈
    (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (BitVec.ofNat 32 g.val) lanes lanesRow X_arg5 X_arg15 X_arg16 X_arg19 X_arg20 X_arg21 X_arg22 X_arg23 init k).2, ∀ x, p.2 x
      = (fun y : S2048x128.Idx => result (fun t q => arg19.view.read (Elt Ideal) X_arg19 (ix2 t q)) (fun t q => arg20.view.read (Elt Ideal) X_arg20 (ix2 t q))
          (fun t q => arg21.view.read (Elt Ideal) X_arg21 (ix2 t q)) (fun t q => arg5.view.read (Elt Ideal) X_arg5 (ix2 t q))
          (fun h t => arg22.view.read (Elt Ideal) X_arg22 (ix2 t (lane g h))) (fun h t => arg23.view.read (Elt Ideal) X_arg23 (ix2 t (lane g h)))
          (fun q => arg15.view.read (Elt Ideal) X_arg15 (ix2 0 q)) (fun q => arg16.view.read (Elt Ideal) X_arg16 (ix2 0 q))
          ((y 0).val / 128) ⟨(y 0).val % 128, Nat.mod_lt _ (by norm_num)⟩ (y 1)) (p.1.emb x)
  | 0, _, p, hp => absurd hp List.not_mem_nil
  | k + 1, hk, p, hp => by
    rw [st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (BitVec.ofNat 32 g.val) lanes lanesRow X_arg5 X_arg15 X_arg16 X_arg19 X_arg20 X_arg21 X_arg22 X_arg23 init ⟨k, lt_of_lt_of_eq hk trips_val.symm⟩] at hp
    dsimp only at hp
    rcases List.mem_append.mp hp with hp | hp
    · rw [tripL_eq] at hp
      obtain rfl := List.mem_singleton.mp hp
      intro x
      obtain ⟨l, q, rfl⟩ : ∃ l q : Fin 128, x = ix2 l q := ⟨x 0, x 1, (ix2_eta x).symm⟩
      dsimp only
      rw [tileOut_eq _ _ _ _ _ _ _ _ _ _ _ _ fun s r => hDA _]
      have he : (Rect.unit (s := S2048x128) (k0_off1 ⟨k, lt_of_lt_of_eq hk trips_val.symm⟩) S128x128.size (k0_off1_inb _)).emb (ix2 l q)
          = ix2 (row k l) q := idx_off1 ⟨k, lt_of_lt_of_eq hk trips_val.symm⟩ _ (ix2 l q)
      rw [he]
      have hl : l.val < 128 := l.isLt
      have e1 : (row k l).val / 128 = k := by show (128 * k + l.val) % 2048 / 128 = k; omega
      have e2 : (row k l).val % 128 = l.val := by show (128 * k + l.val) % 2048 % 128 = l.val; omega
      show _ = result _ _ _ _ _ _ _ _ ((row k l).val / 128) ⟨(row k l).val % 128, _⟩ q
      simp only [e1, e2]
      unfold result
      rw [show fn (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (BitVec.ofNat 32 g.val) lanes lanesRow X_arg5 X_arg15 X_arg16 X_arg19 X_arg20 X_arg21 X_arg22 X_arg23 init k).1 = _ from
        funext fun n => funext fun q => state_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 g X_arg5 X_arg15 X_arg16 X_arg19 X_arg20 X_arg21 X_arg22 X_arg23 init h0 hDA k (by omega) n q]
      rfl
    · exact pieces_eq init h0 hDA k (by omega) p hp

end Cert.SsdIdeal.Val

end
-- ==== Proof.SsdRun.lean ====
/-
  One grid point of the recurrence's kernel: the convolved inputs, the step sizes and the log decays it prepares in its
  scratch buffers, and the block of the output it leaves.
-/
module

public import Idealize.ShloMosaic.Lib.Pointwise
public import Idealize.ShloMosaic.Lib.WritesUnit
public import Idealize.ShloMosaic.Lib.VecWindow
public import proofs.«01_k».proof.Proof.Gen.SsdIdeal.Frame
public import proofs.«01_k».proof.Proof.SsdLoop

set_option maxRecDepth 16384

@[expose] public section

noncomputable section

namespace Cert.SsdIdeal.Val

open Idealize.ShloMosaic Idealize.SL.Sem Cert.SsdIdeal.Gen Idealize.ShloMosaic.TcCoe Idealize.ShloMosaic.Tactic
open Cert.SsdSpec

/-! ## The convolutions' payloads -/

section
variable (b w0 w1 w2 w3 : FVec Ideal S1x128 .f32) (x0 x1 x2 x3 : FVec Ideal S2048x128 .f32) (t : Fin 2048) (q : Fin 128)

theorem conv_order (b a0 a1 a2 a3 : EReal) : b + a0 + a1 + a2 + a3 = a0 + a1 + a2 + a3 + b := by
  simp only [add_comm b, add_assoc, add_left_comm b]

/-- The first input's convolution, from its bias, taps and the four shifted reads. -/
theorem convX_apply : (k0_pay33 (F := Ideal) (k0_pay32 b w0 x0 w1 x1 w2 x2) w3 x3 (ix2 t q) : EReal)
    = silu (w0 (ix2 0 q) * x0 (ix2 t q) + w1 (ix2 0 q) * x1 (ix2 t q) + w2 (ix2 0 q) * x2 (ix2 t q)
        + w3 (ix2 0 q) * x3 (ix2 t q) + b (ix2 0 q)) := by
  pointwise [k0_pay33, k0_pay32]
  rw [conv_order]; rfl

/-- The second input's. -/
theorem convB_apply : (k0_pay38 (F := Ideal) (k0_pay36 b w0 x0) x1 (k0_pay37 w1) w2 x2 w3 x3 (ix2 t q) : EReal)
    = silu (w0 (ix2 0 q) * x0 (ix2 t q) + w1 (ix2 0 q) * x1 (ix2 t q) + w2 (ix2 0 q) * x2 (ix2 t q)
        + w3 (ix2 0 q) * x3 (ix2 t q) + b (ix2 0 q)) := by
  pointwise [k0_pay38, k0_pay36, k0_pay37]
  rw [conv_order]; rfl

/-- The third input's. -/
theorem convC_apply : (k0_pay43 (F := Ideal) (k0_pay41 b) (k0_pay42 w0) x0 w1 x1 w2 x2 w3 x3 (ix2 t q) : EReal)
    = silu (w0 (ix2 0 q) * x0 (ix2 t q) + w1 (ix2 0 q) * x1 (ix2 t q) + w2 (ix2 0 q) * x2 (ix2 t q)
        + w3 (ix2 0 q) * x3 (ix2 t q) + b (ix2 0 q)) := by
  pointwise [k0_pay43, k0_pay41, k0_pay42]
  rw [conv_order]; rfl

/-- The step sizes. -/
theorem dt_apply : (k0_pay2 (F := Ideal) (k0_pay45 x0 b) (k0_pay46 x0 b) (ix2 t q) : EReal) = softplus (x0 (ix2 t q) + b (ix2 0 q)) := by
  pointwise [k0_pay2, k0_pay1, k0_pay45, k0_pay46, k0_pay44]
  unfold softplus
  rw [zero_sub]
  rfl

/-- The log decays. -/
theorem da_apply : (k0_pay3 (F := Ideal) (k0_pay45 x0 b) (k0_pay46 x0 b) w0 (ix2 t q) : EReal)
    = softplus (x0 (ix2 t q) + b (ix2 0 q)) * -Ideal.exp (w0 (ix2 0 q)) := by
  pointwise [k0_pay3, k0_pay1, k0_pay45, k0_pay46, k0_pay44]
  unfold softplus
  rw [zero_sub, zero_sub]
  rfl

end

/-! ## The log decays are below `⊤` -/

theorem exp_nonneg (y : EReal) : 0 ≤ Ideal.exp y := by
  induction y using EReal.rec with
  | bot => exact le_refl _
  | top => exact le_top
  | coe r => exact EReal.coe_nonneg.mpr (Real.exp_pos r).le

theorem log1p_nonneg (y : EReal) (h : 0 ≤ y) : 0 ≤ Ideal.log1p y := by
  induction y using EReal.rec with
  | bot => exact absurd h (by simp)
  | top =>
    unfold Ideal.log1p
    rw [show (1 : EReal) + ⊤ = ⊤ from EReal.add_top_of_ne_bot (by decide)]
    exact le_top
  | coe r =>
    have hr : 0 ≤ r := EReal.coe_nonneg.mp h
    unfold Ideal.log1p
    rw [show (1 : EReal) + (r : EReal) = ((1 + r : ℝ) : EReal) from by push_cast; rfl]
    show 0 ≤ if 1 + r ≤ 0 then (⊥ : EReal) else ((Real.log (1 + r) : ℝ) : EReal)
    rw [if_neg (by linarith)]
    exact EReal.coe_nonneg.mpr (Real.log_nonneg (by linarith))

theorem softplus_nonneg (y : EReal) : 0 ≤ softplus y :=
  add_nonneg (le_max_right _ _) (log1p_nonneg _ (exp_nonneg _))

theorem neg_exp_nonpos (y : EReal) : -Ideal.exp y ≤ 0 := by
  rw [EReal.neg_le, neg_zero]; exact exp_nonneg y

/-- A nonnegative step times a nonpositive rate is not `⊤`. -/
theorem da_ne_top (y a : EReal) : softplus y * -Ideal.exp a ≠ ⊤ :=
  ne_top_of_le_ne_top (by simp) (mul_nonpos_of_nonneg_of_nonpos (softplus_nonneg y) (neg_exp_nonpos a))

/-! ## The buffers' reads -/

/-- A load of four taps' row `j`. -/
theorem readAt_tap (v : View sig .tc .vmem S4x128 .f32) (o : ℕ) (j : Fin 4) (ho : o = j.val) (inb)
    (X : v.ty.Contents (Elt Ideal)) (q : Fin 128) :
    v.readAt (Elt Ideal) (Rect.unit (s := S4x128) ![o, 0] S1x128.size inb).toLoadRect X (ix2 0 q)
      = v.read (Elt Ideal) X (ix2 j q) := by
  subst ho
  exact congrArg (v.read (Elt Ideal) X) (funext fun a => Fin.ext (by
    match a with
    | ⟨0, _⟩ => show j.val + 1 * 0 = j.val; omega
    | ⟨1, _⟩ => show 0 + 1 * q.val = q.val; omega))

/-- A load of a whole block reads it. -/
theorem readAt_block {e : EltTy} (v : View sig .tc .vmem S2048x128 e) (inb) (X : v.ty.Contents (Elt Ideal)) :
    v.readAt (Elt Ideal) (Rect.unit (s := S2048x128) ![0, 0] S2048x128.size inb).toLoadRect X = v.read (Elt Ideal) X :=
  View.readAt_full v X inb

/-- A buffer whose newest store is a block of rows from row `o` on, read at row `o + r`: row `r` of the block. -/
theorem rows_hit {N M o : ℕ} (v : View sig .tc .vmem ⟨2, ![N, 128]⟩ .f32) (inb)
    (w : (Rect.unit (s := ⟨2, ![N, 128]⟩) ![o, 0] ![M, 128] inb).shape.Idx → Elt Ideal .f32)
    (L : List (View.Piece (Elt Ideal) ⟨2, ![N, 128]⟩ .f32)) (y : Fin N) (r : Fin M) (q : Fin 128) (hv : y.val = o + r.val) :
    v.read (Elt Ideal) (v.writes (Elt Ideal) v.junk
      ((⟨Rect.unit (s := ⟨2, ![N, 128]⟩) ![o, 0] ![M, 128] inb, w⟩ : View.Piece (Elt Ideal) ⟨2, ![N, 128]⟩ .f32) :: L)) (ix2 y q)
      = w (ix2 r q) :=
  View.read_writes_cons_rows_of_mem v v.junk inb w L (ix2 y q) (ix2 r q) rfl hv rfl

/-- … and read at a row above row `o`: what the stores before left. -/
theorem rows_miss {N M o : ℕ} (v : View sig .tc .vmem ⟨2, ![N, 128]⟩ .f32) (inb)
    (w : (Rect.unit (s := ⟨2, ![N, 128]⟩) ![o, 0] ![M, 128] inb).shape.Idx → Elt Ideal .f32)
    (L : List (View.Piece (Elt Ideal) ⟨2, ![N, 128]⟩ .f32)) (y : Fin N) (q : Fin 128) (hv : y.val < o) :
    v.read (Elt Ideal) (v.writes (Elt Ideal) v.junk
      ((⟨Rect.unit (s := ⟨2, ![N, 128]⟩) ![o, 0] ![M, 128] inb, w⟩ : View.Piece (Elt Ideal) ⟨2, ![N, 128]⟩ .f32) :: L)) (ix2 y q)
      = v.read (Elt Ideal) (v.writes (Elt Ideal) v.junk L) (ix2 y q) :=
  View.read_writes_cons_rows_of_not_mem v v.junk inb w L (ix2 y q) rfl rfl (Or.inl hv)

/-- The padded buffer, eight zero rows above a column, read `3 - j` rows back. -/
theorem pad_read (v : View sig .tc .vmem S2056x128 .f32) (o : ℕ) (j : Fin 4) (ho : o = 5 + j.val) (inb8 inb0 inb)
    (w : FVec Ideal S2048x128 .f32) (z : FVec Ideal S8x128 .f32) (L : List (View.Piece (Elt Ideal) S2056x128 .f32))
    (x : Fin 2048 → Fin 128 → EReal) (hw : ∀ t q, w (ix2 t q) = x t q) (hz : ∀ y, z y = 0) (t : Fin 2048) (q : Fin 128) :
    v.readCov ((⟨Rect.unit (s := S2056x128) ![8, 0] S2048x128.size inb8, w⟩ : View.Piece (Elt Ideal) S2056x128 .f32)
        :: ⟨Rect.unit (s := S2056x128) ![0, 0] S8x128.size inb0, z⟩ :: L)
      (Rect.unit (s := S2056x128) ![o, 0] S2048x128.size inb).toLoadRect (ix2 t q) = tap (fun t => x t q) t j := by
  subst ho
  have ht : t.val < 2048 := t.isLt
  have hj : j.val < 4 := j.isLt
  have hidx : (Rect.unit (s := S2056x128) ![5 + j.val, 0] S2048x128.size inb).idx (ix2 t q)
      = ix2 ⟨t.val + j.val + 5, by omega⟩ q := funext fun a => Fin.ext (by
    match a with
    | ⟨0, _⟩ => show 5 + j.val + 1 * t.val = t.val + j.val + 5; omega
    | ⟨1, _⟩ => show 0 + 1 * q.val = q.val; omega)
  unfold View.readCov
  rw [View.readAt_apply]
  erw [hidx]
  unfold tap
  by_cases h : 3 ≤ t.val + j.val
  · rw [dif_pos h]
    generalize hy : (⟨t.val + j.val + 5, by omega⟩ : Fin 2056) = y
    generalize hx : (⟨t.val + j.val - 3, by omega⟩ : Fin 2048) = r
    have hv : y.val = 8 + r.val := by rw [← hy, ← hx]; show t.val + j.val + 5 = 8 + (t.val + j.val - 3); omega
    exact (rows_hit (N := 2056) (M := 2048) v inb8 w _ y r q hv).trans (hw r q)
  · rw [dif_neg h]
    have h8 : t.val + j.val + 5 < 8 := by omega
    generalize hy : (⟨t.val + j.val + 5, by omega⟩ : Fin 2056) = y
    have hv : y.val < 8 := by rw [← hy]; exact h8
    refine (rows_miss (N := 2056) (M := 2048) v inb8 w _ y q hv).trans ?_
    exact (rows_hit (N := 2056) (M := 8) v inb0 z L y ⟨y.val, hv⟩ q (Nat.zero_add y.val).symm).trans (hz _)

theorem zero30 (y) : k0_pay30 (F := Ideal) y = 0 := by
  obtain ⟨l, q, rfl⟩ : ∃ l q, y = ix2 l q := ⟨y 0, y 1, (ix2_eta y).symm⟩
  pointwise [k0_pay30]
theorem zero34 (y) : k0_pay34 (F := Ideal) y = 0 := by
  obtain ⟨l, q, rfl⟩ : ∃ l q, y = ix2 l q := ⟨y 0, y 1, (ix2_eta y).symm⟩
  pointwise [k0_pay34]
theorem zero39 (y) : k0_pay39 (F := Ideal) y = 0 := by
  obtain ⟨l, q, rfl⟩ : ∃ l q, y = ix2 l q := ⟨y 0, y 1, (ix2_eta y).symm⟩
  pointwise [k0_pay39]
theorem copy31 (x : FVec Ideal S2048x128 .bf16) (t : Fin 2048) (q : Fin 128) : (k0_pay31 (F := Ideal) x (ix2 t q) : EReal) = (x (ix2 t q) : EReal) := by
  pointwise [k0_pay31]
theorem copy35 (x : FVec Ideal S2048x128 .bf16) (t : Fin 2048) (q : Fin 128) : (k0_pay35 (F := Ideal) x (ix2 t q) : EReal) = (x (ix2 t q) : EReal) := by
  pointwise [k0_pay35]
theorem copy40 (x : FVec Ideal S2048x128 .bf16) (t : Fin 2048) (q : Fin 128) : (k0_pay40 (F := Ideal) x (ix2 t q) : EReal) = (x (ix2 t q) : EReal) := by
  pointwise [k0_pay40]

/-! ## The block a grid point leaves -/

/-- One batch row and one group, from the point's fifteen input blocks. -/
def block (g : Fin 8) (x0 x1 x2 x3 : FVec Ideal S2048x128 .bf16) (x4 : FVec Ideal S2048x128 .f32)
    (x5 x6 x7 : FVec Ideal S4x128 .f32) (x8 x9 x10 x11 x12 x13 x14 : FVec Ideal S1x128 .f32) (y : S2048x128.Idx) : EReal :=
  result (fun t q => conv (fun j => x5 (ix2 j q)) (x8 (ix2 0 q)) (fun t => x0 (ix2 t q)) t)
    (fun t q => conv (fun j => x6 (ix2 j q)) (x9 (ix2 0 q)) (fun t => x1 (ix2 t q)) t)
    (fun t q => conv (fun j => x7 (ix2 j q)) (x10 (ix2 0 q)) (fun t => x2 (ix2 t q)) t)
    (fun t q => x3 (ix2 t q))
    (fun h t => softplus (x4 (ix2 t (lane g h)) + x11 (ix2 0 (lane g h))))
    (fun h t => softplus (x4 (ix2 t (lane g h)) + x11 (ix2 0 (lane g h))) * -Ideal.exp (x12 (ix2 0 (lane g h))))
    (fun q => x13 (ix2 0 q)) (fun q => x14 (ix2 0 q))
    ((y 0).val / 128) ⟨(y 0).val % 128, Nat.mod_lt _ (by norm_num)⟩ (y 1)

theorem out_eq (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .f32) (harg6 : arg6.IsWhole) (arg7 : Memref sig .tc .vmem S4x128 .f32) (harg7 : arg7.IsWhole) (arg8 : Memref sig .tc .vmem S4x128 .f32) (harg8 : arg8.IsWhole) (arg9 : Memref sig .tc .vmem S4x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S2048x128 .bf16) (harg17 : arg17.IsWhole) (arg18 : Memref sig .tc .vmem S2056x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S2048x128 .f32) (harg21 : arg21.IsWhole) (arg22 : Memref sig .tc .vmem S2048x128 .f32) (harg22 : arg22.IsWhole) (arg23 : Memref sig .tc .vmem S2048x128 .f32) (harg23 : arg23.IsWhole)
    (x0 : Vec Ideal S2048x128 .bf16) (x1 : Vec Ideal S2048x128 .bf16) (x2 : Vec Ideal S2048x128 .bf16) (x3 : Vec Ideal S2048x128 .bf16) (x4 : Vec Ideal S2048x128 .f32) (x5 : Vec Ideal S4x128 .f32) (x6 : Vec Ideal S4x128 .f32) (x7 : Vec Ideal S4x128 .f32) (x8 : Vec Ideal S1x128 .f32) (x9 : Vec Ideal S1x128 .f32) (x10 : Vec Ideal S1x128 .f32) (x11 : Vec Ideal S1x128 .f32) (x12 : Vec Ideal S1x128 .f32) (x13 : Vec Ideal S1x128 .f32) (x14 : Vec Ideal S1x128 .f32) (y : S2048x128.Idx) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 y = block (i 1) x0 x1 x2 x3 x4 x5 x6 x7 x8 x9 x10 x11 x12 x13 x14 y := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14)]
  refine View.canon_apply_of_pieces (block (i 1) x0 x1 x2 x3 x4 x5 x6 x7 x8 x9 x10 x11 x12 x13 x14) _ ?_ y (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 y)
  unfold kernelRun0_A
  dsimp only
  sl_unfold_words
  have htr : Scf.trips (0#32) (Scalar.addi 0#32 16#32) 1#32 = 16 := by decide +kernel
  rw [htr]
  intro p hp x
  refine (pieces_eq _ _ _ _ _ _ _ _ _ _ _ _ _ _ _ _ _ _ _ _ _ _ _ _ _ _ _ _ _ _ _ _ _ _ _ _ _ _ _ _ _ _ _ _ _ _ _ _ (i 1) _ _ _ _ _ _ _ _ _ ?_ ?_ 16 le_rfl p hp x).trans ?_
  · intro n q; pointwise [k0_pay8]
  · intro y
    obtain ⟨t, q, rfl⟩ : ∃ t q, y = ix2 t q := ⟨y 0, y 1, (ix2_eta y).symm⟩
    refine ne_of_eq_of_ne ((congrFun (View.read_writes_full _ _ _ _ _) _).trans (da_apply ..)) (da_ne_top _ _)
  · unfold block
    dsimp only
    congr 1
    · funext t q
      refine (congrFun (View.read_writes_full _ _ _ _ _) _).trans ?_
      refine (convX_apply ..).trans ?_
      unfold conv
      have hw : ∀ t q, (k0_pay31 (F := Ideal) (View.readAt (Elt Ideal) arg2.view (Rect.unit (s := S2048x128) ![0, 0] S2048x128.size inb_S2048x128_S2048x128_0_0).toLoadRect
          (harg2.unread x0)) (ix2 t q) : EReal) = x0 (ix2 t q) := fun t q => by
        rw [copy31, readAt_block, harg2.read_unread]
      rw [readAt_row, Memref.IsWhole.read_unread,
        readAt_tap _ 0 0 rfl, readAt_tap _ 1 1 rfl, readAt_tap _ 2 2 rfl, readAt_tap _ 3 3 rfl,
        Memref.IsWhole.read_unread, pad_read _ 5 0 rfl _ _ _ _ _ _ _ hw zero30, pad_read _ 6 1 rfl _ _ _ _ _ _ _ hw zero30,
        pad_read _ 7 2 rfl _ _ _ _ _ _ _ hw zero30, pad_read _ 8 3 rfl _ _ _ _ _ _ _ hw zero30]
    · funext t q
      refine (congrFun (View.read_writes_full _ _ _ _ _) _).trans ?_
      refine (convB_apply ..).trans ?_
      unfold conv
      have hw : ∀ t q, (k0_pay35 (F := Ideal) (View.readAt (Elt Ideal) arg3.view (Rect.unit (s := S2048x128) ![0, 0] S2048x128.size inb_S2048x128_S2048x128_0_0).toLoadRect
          (harg3.unread x1)) (ix2 t q) : EReal) = x1 (ix2 t q) := fun t q => by
        rw [copy35, readAt_block, harg3.read_unread]
      rw [readAt_row, Memref.IsWhole.read_unread,
        readAt_tap _ 0 0 rfl, readAt_tap _ 1 1 rfl, readAt_tap _ 2 2 rfl, readAt_tap _ 3 3 rfl,
        Memref.IsWhole.read_unread, pad_read _ 5 0 rfl _ _ _ _ _ _ _ hw zero34, pad_read _ 6 1 rfl _ _ _ _ _ _ _ hw zero34,
        pad_read _ 7 2 rfl _ _ _ _ _ _ _ hw zero34, pad_read _ 8 3 rfl _ _ _ _ _ _ _ hw zero34]
    · funext t q
      refine (congrFun (View.read_writes_full _ _ _ _ _) _).trans ?_
      refine (convC_apply ..).trans ?_
      unfold conv
      have hw : ∀ t q, (k0_pay40 (F := Ideal) (View.readAt (Elt Ideal) arg4.view (Rect.unit (s := S2048x128) ![0, 0] S2048x128.size inb_S2048x128_S2048x128_0_0).toLoadRect
          (harg4.unread x2)) (ix2 t q) : EReal) = x2 (ix2 t q) := fun t q => by
        rw [copy40, readAt_block, harg4.read_unread]
      rw [readAt_row, Memref.IsWhole.read_unread,
        readAt_tap _ 0 0 rfl, readAt_tap _ 1 1 rfl, readAt_tap _ 2 2 rfl, readAt_tap _ 3 3 rfl,
        Memref.IsWhole.read_unread, pad_read _ 5 0 rfl _ _ _ _ _ _ _ hw zero39, pad_read _ 6 1 rfl _ _ _ _ _ _ _ hw zero39,
        pad_read _ 7 2 rfl _ _ _ _ _ _ _ hw zero39, pad_read _ 8 3 rfl _ _ _ _ _ _ _ hw zero39]
    · funext t q
      rw [harg5.read_unread]
    · funext h t
      refine (congrFun (View.read_writes_full _ _ _ _ _) _).trans ?_
      refine (dt_apply ..).trans ?_
      rw [readAt_block, readAt_row, harg6.read_unread, harg13.read_unread]
    · funext h t
      refine (congrFun (View.read_writes_full _ _ _ _ _) _).trans ?_
      refine (da_apply ..).trans ?_
      rw [readAt_block, readAt_row, harg6.read_unread, harg13.read_unread]
      congr 3
      refine (congrFun (readAt_row _ _ _) _).trans ?_
      rw [harg14.read_unread]
    · funext q
      rw [harg15.read_unread]
    · funext q
      rw [harg16.read_unread]

end Cert.SsdIdeal.Val

end
-- ==== Proof.SsdFinal.lean ====
/-
  The recurrence of the whole layer, out of the call's eight arguments: which columns of the projection, which weights and
  which heads a batch row and a group read, and the recurrence of `SsdSpec` over them.
-/
module

public import proofs.«01_k».proof.Proof.SsdSpec

set_option maxRecDepth 16384

@[expose] public section

noncomputable section

namespace Cert.SsdSpec

open Idealize.ShloMosaic

/-- The recurrence depends on its operands' values only. -/
theorem result_congr {X X' B B' C C' Z Z' : Fin 2048 → Fin 128 → EReal} {dt dt' da da' : Fin 2 → Fin 2048 → EReal}
    {D D' NW NW' : Fin 128 → EReal} (hX : ∀ t q, X t q = X' t q) (hB : ∀ t q, B t q = B' t q) (hC : ∀ t q, C t q = C' t q)
    (hZ : ∀ t q, Z t q = Z' t q) (hdt : ∀ h t, dt h t = dt' h t) (hda : ∀ h t, da h t = da' h t) (hD : ∀ q, D q = D' q)
    (hNW : ∀ q, NW q = NW' q) (c : ℕ) (l q : Fin 128) :
    result X B C Z dt da D NW c l q = result X' B' C' Z' dt' da' D' NW' c l q := by
  obtain rfl : X = X' := funext fun t => funext (hX t)
  obtain rfl : B = B' := funext fun t => funext (hB t)
  obtain rfl : C = C' := funext fun t => funext (hC t)
  obtain rfl : Z = Z' := funext fun t => funext (hZ t)
  obtain rfl : dt = dt' := funext fun t => funext (hdt t)
  obtain rfl : da = da' := funext fun t => funext (hda t)
  obtain rfl : D = D' := funext hD
  obtain rfl : NW = NW' := funext hNW
  rfl

section

variable (a0 : (⟨2, ![32768, 7168]⟩ : Shape).Idx → EReal) (a1 : (⟨2, ![32768, 128]⟩ : Shape).Idx → EReal)
  (a2 : (⟨3, ![1, 4, 3072]⟩ : Shape).Idx → EReal) (a3 : (⟨2, ![1, 3072]⟩ : Shape).Idx → EReal)
  (a4 a5 a6 : (⟨2, ![1, 16]⟩ : Shape).Idx → EReal) (a7 : (⟨2, ![1, 1024]⟩ : Shape).Idx → EReal)
  (b : Fin 16) (g : Fin 8)

/-- Row `t` of batch row `b` in an array that lists the batch rows one after another. -/
def at_ (b : Fin 16) (t : Fin 2048) : Fin 32768 := ⟨2048 * b.val + t.val, by omega⟩

/-- Channel `q` of group `g`, in the `k`-th of the convolution's three blocks of 1024 channels. -/
def chan (k : Fin 3) (g : Fin 8) (q : Fin 128) : Fin 3072 := ⟨1024 * k.val + 128 * g.val + q.val, by omega⟩

/-- The same channel's column of the projection, behind the attention's columns and the gate's. -/
def pcol (k : Fin 4) (g : Fin 8) (q : Fin 128) : Fin 7168 := ⟨3072 + 1024 * k.val + 128 * g.val + q.val, by omega⟩

/-- Head `h` of group `g`. -/
def head (g : Fin 8) (h : Fin 2) : Fin 16 := ⟨2 * g.val + h.val, by omega⟩

/-- The same head's column of the step-size array. -/
def hcol (g : Fin 8) (h : Fin 2) : Fin 128 := ⟨2 * g.val + h.val, by omega⟩

/-- Channel `q` of group `g` among the layer's 1024. -/
def ocol (g : Fin 8) (q : Fin 128) : Fin 1024 := ⟨128 * g.val + q.val, by omega⟩

/-- The convolved and activated channels of block `k`: the inputs, the keys or the queries of group `g`. -/
def mixed (k : Fin 3) (t : Fin 2048) (q : Fin 128) : EReal :=
  conv (fun j => a2 (ix3 0 j (chan k g q))) (a3 (ix2 0 (chan k g q)))
    (fun t => a0 (ix2 (at_ b t) (pcol k.succ g q))) t

/-- The step size of head `h`. -/
def step (h : Fin 2) (t : Fin 2048) : EReal := softplus (a1 (ix2 (at_ b t) (hcol g h)) + a4 (ix2 0 (head g h)))

/-- The log of the decay one step makes. -/
def logDecay (h : Fin 2) (t : Fin 2048) : EReal := step a1 a4 b g h t * -Ideal.exp (a5 (ix2 0 (head g h)))

/-- The layer's result at row `t` of batch row `b`, channel `q` of group `g`. -/
def final (t : Fin 2048) (q : Fin 128) : EReal :=
  result (mixed a0 a2 a3 b g 0) (mixed a0 a2 a3 b g 1) (mixed a0 a2 a3 b g 2)
    (fun t q => a0 (ix2 (at_ b t) (pcol 0 g q))) (step a1 a4 b g) (logDecay a1 a4 a5 b g)
    (fun q => a6 (ix2 0 (head g (hd q)))) (fun q => a7 (ix2 0 (ocol g q)))
    (t.val / 128) ⟨t.val % 128, Nat.mod_lt _ (by norm_num)⟩ q

end

end Cert.SsdSpec

end
-- ==== Proof.SsdArray.lean ====
/-
  The recurrence kernel's whole result array: what each grid point's input blocks hold of the launch's arguments, and the
  result array element by element.
-/
module

public import proofs.«01_k».proof.Proof.SsdRun
public import proofs.«01_k».proof.Proof.SsdFinal
public import proofs.«01_k».proof.Proof.Gen.SsdIdeal.Value
public import Idealize.ShloMosaic.Lib.ValueLayout

set_option maxRecDepth 16384

@[expose] public section

noncomputable section

namespace Cert.SsdIdeal.Val

open Cert.SsdIdeal Cert.SsdIdeal.Gen Cert.SsdSpec Idealize.ShloMosaic Idealize.ShloMosaic.TcCoe Idealize.SL.Sem
open Idealize.ShloMosaic.Tactic

variable (m : (ℓ : Loc nD τ sig) → Buf (Elt Ideal) ℓ)

/-! ## What the host prepares -/

theorem taps (c : Dev nD) (j : Fin 4) (k : Fin 3072) :
    (V m c main_v0 : S4x3072.Idx → EReal) (ix2 j k) = (m ((c : Thread nD τ).loc main_arg2) : S1x4x3072.Idx → EReal) (ix3 0 j k) := by
  have e : V m c main_v0 = shapeCast S4x3072 (m ((c : Thread nD τ).loc main_arg2)) shapeCasts_S1x4x3072_S4x3072 := by
    show StableHlo.after _ _ (Proc.devRef .tc main_v0) = _
    simp only [List.flatten_cons, List.flatten_nil, List.append_nil, List.cons_append, List.nil_append]
    after_results
    rfl
  rw [e]
  exact ValueIdx.shapeCast_1ab_ab_apply _ _ j k

theorem bias (c : Dev nD) (k : Fin 3072) :
    (V m c main_v2 : S1x3072.Idx → EReal) (ix2 0 k) = (m ((c : Thread nD τ).loc main_arg3) : S1x3072.Idx → EReal) (ix2 0 k) := by
  have e : V m c main_v2 = shapeCast S1x3072 (shapeCast S3072 (m ((c : Thread nD τ).loc main_arg3)) shapeCasts_S1x3072_S3072) shapeCasts_S3072_S1x3072 := by
    show StableHlo.after _ _ (Proc.devRef .tc main_v2) = _
    simp only [List.flatten_cons, List.flatten_nil, List.append_nil, List.cons_append, List.nil_append]
    after_results
    rfl
  rw [e]
  pointwise

theorem stepBias (c : Dev nD) (g : Fin 8) (h : Fin 2) :
    (V m c main_v5 : S1x128.Idx → EReal) (ix2 0 (lane g h)) = (m ((c : Thread nD τ).loc main_arg4) : S1x16.Idx → EReal) (ix2 0 (head g h)) := by
  have e : V m c main_v5 = shapeCast S1x128 (pad S128 ![0] ![112] ![0]
      (shapeCast S16 (m ((c : Thread nD τ).loc main_arg4)) shapeCasts_S1x16_S16)
      (sitofp (F := Ideal) .f32 (constantI S_ 32 0#32)) pads_S16_S128_01120 h_S_) shapeCasts_S128_S1x128 := by
    show StableHlo.after _ _ (Proc.devRef .tc main_v5) = _
    simp only [List.flatten_cons, List.flatten_nil, List.append_nil, List.cons_append, List.nil_append]
    after_results
    rfl
  rw [e]
  have h16 : (lane g h).val < 16 := (head g h).isLt
  pointwise
  rw [dif_pos h16]
  rfl

theorem decayLog (c : Dev nD) (g : Fin 8) (h : Fin 2) :
    (V m c main_v8 : S1x128.Idx → EReal) (ix2 0 (lane g h)) = (m ((c : Thread nD τ).loc main_arg5) : S1x16.Idx → EReal) (ix2 0 (head g h)) := by
  have e : V m c main_v8 = shapeCast S1x128 (pad S128 ![0] ![112] ![0]
      (shapeCast S16 (m ((c : Thread nD τ).loc main_arg5)) shapeCasts_S1x16_S16)
      (sitofp (F := Ideal) .f32 (constantI S_ 32 0#32)) pads_S16_S128_01120 h_S_) shapeCasts_S128_S1x128 := by
    show StableHlo.after _ _ (Proc.devRef .tc main_v8) = _
    simp only [List.flatten_cons, List.flatten_nil, List.append_nil, List.cons_append, List.nil_append]
    after_results
    rfl
  rw [e]
  have h16 : (lane g h).val < 16 := (head g h).isLt
  pointwise
  rw [dif_pos h16]
  rfl

theorem skip (c : Dev nD) (g : Fin 8) (q : Fin 128) :
    (V m c main_v12 : S1x1024.Idx → EReal) (ix2 0 (ocol g q)) = (m ((c : Thread nD τ).loc main_arg6) : S1x16.Idx → EReal) (ix2 0 (head g (hd q))) := by
  have e : V m c main_v12 = shapeCast S1x1024 (shapeCast S1024 (broadcastInDim S16x64 ![0] bcast_S16_S16x64_0
      (shapeCast S16 (m ((c : Thread nD τ).loc main_arg6)) shapeCasts_S1x16_S16)) shapeCasts_S16x64_S1024) shapeCasts_S1024_S1x1024 := by
    show StableHlo.after _ _ (Proc.devRef .tc main_v12) = _
    simp only [List.flatten_cons, List.flatten_nil, List.append_nil, List.cons_append, List.nil_append]
    after_results
    rfl
  rw [e]
  pointwise
  refine congrArg (m ((c : Thread nD τ).loc main_arg6)) (congrArg (ix2 0) (Fin.ext ?_))
  show (128 * g.val + q.val) / 64 = 2 * g.val + (hd q).val
  have hq := q.isLt
  unfold hd
  split_ifs with h
  · show _ = 2 * g.val + 1; omega
  · show _ = 2 * g.val + 0; omega

theorem normW (c : Dev nD) (k : Fin 1024) :
    (V m c main_v14 : S1x1024.Idx → EReal) (ix2 0 k) = (m ((c : Thread nD τ).loc main_arg7) : S1x1024.Idx → EReal) (ix2 0 k) := by
  have e : V m c main_v14 = shapeCast S1x1024 (shapeCast S1024 (m ((c : Thread nD τ).loc main_arg7)) shapeCasts_S1x1024_S1024) shapeCasts_S1024_S1x1024 := by
    show StableHlo.after _ _ (Proc.devRef .tc main_v14) = _
    simp only [List.flatten_cons, List.flatten_nil, List.append_nil, List.cons_append, List.nil_append]
    after_results
    rfl
  rw [e]
  pointwise

/-! ## The input blocks -/

/-- The batch row of a grid point. -/
def pb (t : Fin cfg0.N) : Fin 16 := grid0.coords t 0

/-- The group of a grid point. -/
def pg (t : Fin cfg0.N) : Fin 8 := grid0.coords t 1

/-- The block row and column each point's window names, over the whole grid. -/
theorem idx_all : ∀ t : Fin cfg0.N,
    (win0_0.index t 0 = (pb t).val ∧ win0_0.index t 1 = 32 + (pg t).val)
    ∧ (win0_1.index t 0 = (pb t).val ∧ win0_1.index t 1 = 40 + (pg t).val)
    ∧ (win0_2.index t 0 = (pb t).val ∧ win0_2.index t 1 = 48 + (pg t).val)
    ∧ (win0_3.index t 0 = (pb t).val ∧ win0_3.index t 1 = 24 + (pg t).val)
    ∧ (win0_4.index t 0 = (pb t).val ∧ win0_4.index t 1 = 0)
    ∧ (win0_5.index t 0 = 0 ∧ win0_5.index t 1 = (pg t).val)
    ∧ (win0_6.index t 0 = 0 ∧ win0_6.index t 1 = 8 + (pg t).val)
    ∧ (win0_7.index t 0 = 0 ∧ win0_7.index t 1 = 16 + (pg t).val)
    ∧ (win0_8.index t 0 = 0 ∧ win0_8.index t 1 = (pg t).val)
    ∧ (win0_9.index t 0 = 0 ∧ win0_9.index t 1 = 8 + (pg t).val)
    ∧ (win0_10.index t 0 = 0 ∧ win0_10.index t 1 = 16 + (pg t).val)
    ∧ (win0_11.index t 0 = 0 ∧ win0_11.index t 1 = 0)
    ∧ (win0_12.index t 0 = 0 ∧ win0_12.index t 1 = 0)
    ∧ (win0_13.index t 0 = 0 ∧ win0_13.index t 1 = (pg t).val)
    ∧ (win0_14.index t 0 = 0 ∧ win0_14.index t 1 = (pg t).val)
    ∧ (win0_15.index t 0 = (pb t).val ∧ win0_15.index t 1 = (pg t).val) := by
  unfold pb pg
  decide +kernel

theorem blk0 (c : Dev nD) (t : Fin cfg0.N) (r : Fin 2048) (q : Fin 128) :
    (iblk m c 0 t : S2048x128.Idx → EReal) (ix2 r q)
      = (m ((c : Thread nD τ).loc main_arg0) : S32768x7168.Idx → EReal) (ix2 (at_ (pb t) r) (pcol 1 (pg t) q)) := by
  refine Eq.trans ?_ (congrFun (V_main_arg0 m c) _)
  have hi := (idx_all t).1
  refine congrArg (V m c main_arg0) (funext fun a => Fin.ext ?_)
  match a with
  | ⟨0, _⟩ => show win0_0.index t 0 * 2048 + 1 * r.val = 2048 * (pb t).val + r.val; omega
  | ⟨1, _⟩ => show win0_0.index t 1 * 128 + 1 * q.val = 3072 + 1024 * 1 + 128 * (pg t).val + q.val; omega

theorem blk1 (c : Dev nD) (t : Fin cfg0.N) (r : Fin 2048) (q : Fin 128) :
    (iblk m c 1 t : S2048x128.Idx → EReal) (ix2 r q)
      = (m ((c : Thread nD τ).loc main_arg0) : S32768x7168.Idx → EReal) (ix2 (at_ (pb t) r) (pcol 2 (pg t) q)) := by
  refine Eq.trans ?_ (congrFun (V_main_arg0 m c) _)
  have hi := (idx_all t).2.1
  refine congrArg (V m c main_arg0) (funext fun a => Fin.ext ?_)
  match a with
  | ⟨0, _⟩ => show win0_1.index t 0 * 2048 + 1 * r.val = 2048 * (pb t).val + r.val; omega
  | ⟨1, _⟩ => show win0_1.index t 1 * 128 + 1 * q.val = 3072 + 1024 * 2 + 128 * (pg t).val + q.val; omega

theorem blk2 (c : Dev nD) (t : Fin cfg0.N) (r : Fin 2048) (q : Fin 128) :
    (iblk m c 2 t : S2048x128.Idx → EReal) (ix2 r q)
      = (m ((c : Thread nD τ).loc main_arg0) : S32768x7168.Idx → EReal) (ix2 (at_ (pb t) r) (pcol 3 (pg t) q)) := by
  refine Eq.trans ?_ (congrFun (V_main_arg0 m c) _)
  have hi := (idx_all t).2.2.1
  refine congrArg (V m c main_arg0) (funext fun a => Fin.ext ?_)
  match a with
  | ⟨0, _⟩ => show win0_2.index t 0 * 2048 + 1 * r.val = 2048 * (pb t).val + r.val; omega
  | ⟨1, _⟩ => show win0_2.index t 1 * 128 + 1 * q.val = 3072 + 1024 * 3 + 128 * (pg t).val + q.val; omega

theorem blk3 (c : Dev nD) (t : Fin cfg0.N) (r : Fin 2048) (q : Fin 128) :
    (iblk m c 3 t : S2048x128.Idx → EReal) (ix2 r q)
      = (m ((c : Thread nD τ).loc main_arg0) : S32768x7168.Idx → EReal) (ix2 (at_ (pb t) r) (pcol 0 (pg t) q)) := by
  refine Eq.trans ?_ (congrFun (V_main_arg0 m c) _)
  have hi := (idx_all t).2.2.2.1
  refine congrArg (V m c main_arg0) (funext fun a => Fin.ext ?_)
  match a with
  | ⟨0, _⟩ => show win0_3.index t 0 * 2048 + 1 * r.val = 2048 * (pb t).val + r.val; omega
  | ⟨1, _⟩ => show win0_3.index t 1 * 128 + 1 * q.val = 3072 + 1024 * 0 + 128 * (pg t).val + q.val; omega

theorem blk4 (c : Dev nD) (t : Fin cfg0.N) (r : Fin 2048) (q : Fin 128) :
    (iblk m c 4 t : S2048x128.Idx → EReal) (ix2 r q)
      = (m ((c : Thread nD τ).loc main_arg1) : S32768x128.Idx → EReal) (ix2 (at_ (pb t) r) q) := by
  refine Eq.trans ?_ (congrFun (V_main_arg1 m c) _)
  have hi := (idx_all t).2.2.2.2.1
  refine congrArg (V m c main_arg1) (funext fun a => Fin.ext ?_)
  match a with
  | ⟨0, _⟩ => show win0_4.index t 0 * 2048 + 1 * r.val = 2048 * (pb t).val + r.val; omega
  | ⟨1, _⟩ => show win0_4.index t 1 * 128 + 1 * q.val = q.val; omega

theorem blk5 (c : Dev nD) (t : Fin cfg0.N) (j : Fin 4) (q : Fin 128) :
    (iblk m c 5 t : S4x128.Idx → EReal) (ix2 j q)
      = (m ((c : Thread nD τ).loc main_arg2) : S1x4x3072.Idx → EReal) (ix3 0 j (chan 0 (pg t) q)) := by
  refine Eq.trans ?_ (taps m c j (chan 0 (pg t) q))
  have hi := (idx_all t).2.2.2.2.2.1
  refine congrArg (V m c main_v0) (funext fun a => Fin.ext ?_)
  match a with
  | ⟨0, _⟩ => show win0_5.index t 0 * 4 + 1 * j.val = j.val; omega
  | ⟨1, _⟩ => show win0_5.index t 1 * 128 + 1 * q.val = 1024 * 0 + 128 * (pg t).val + q.val; omega

theorem blk6 (c : Dev nD) (t : Fin cfg0.N) (j : Fin 4) (q : Fin 128) :
    (iblk m c 6 t : S4x128.Idx → EReal) (ix2 j q)
      = (m ((c : Thread nD τ).loc main_arg2) : S1x4x3072.Idx → EReal) (ix3 0 j (chan 1 (pg t) q)) := by
  refine Eq.trans ?_ (taps m c j (chan 1 (pg t) q))
  have hi := (idx_all t).2.2.2.2.2.2.1
  refine congrArg (V m c main_v0) (funext fun a => Fin.ext ?_)
  match a with
  | ⟨0, _⟩ => show win0_6.index t 0 * 4 + 1 * j.val = j.val; omega
  | ⟨1, _⟩ => show win0_6.index t 1 * 128 + 1 * q.val = 1024 * 1 + 128 * (pg t).val + q.val; omega

theorem blk7 (c : Dev nD) (t : Fin cfg0.N) (j : Fin 4) (q : Fin 128) :
    (iblk m c 7 t : S4x128.Idx → EReal) (ix2 j q)
      = (m ((c : Thread nD τ).loc main_arg2) : S1x4x3072.Idx → EReal) (ix3 0 j (chan 2 (pg t) q)) := by
  refine Eq.trans ?_ (taps m c j (chan 2 (pg t) q))
  have hi := (idx_all t).2.2.2.2.2.2.2.1
  refine congrArg (V m c main_v0) (funext fun a => Fin.ext ?_)
  match a with
  | ⟨0, _⟩ => show win0_7.index t 0 * 4 + 1 * j.val = j.val; omega
  | ⟨1, _⟩ => show win0_7.index t 1 * 128 + 1 * q.val = 1024 * 2 + 128 * (pg t).val + q.val; omega

theorem blk8 (c : Dev nD) (t : Fin cfg0.N) (q : Fin 128) :
    (iblk m c 8 t : S1x128.Idx → EReal) (ix2 0 q) = (m ((c : Thread nD τ).loc main_arg3) : S1x3072.Idx → EReal) (ix2 0 (chan 0 (pg t) q)) := by
  refine Eq.trans ?_ (bias m c (chan 0 (pg t) q))
  have hi := (idx_all t).2.2.2.2.2.2.2.2.1
  refine congrArg (V m c main_v2) (funext fun a => Fin.ext ?_)
  match a with
  | ⟨0, _⟩ => show win0_8.index t 0 * 1 + 1 * 0 = 0; omega
  | ⟨1, _⟩ => show win0_8.index t 1 * 128 + 1 * q.val = 1024 * 0 + 128 * (pg t).val + q.val; omega

theorem blk9 (c : Dev nD) (t : Fin cfg0.N) (q : Fin 128) :
    (iblk m c 9 t : S1x128.Idx → EReal) (ix2 0 q) = (m ((c : Thread nD τ).loc main_arg3) : S1x3072.Idx → EReal) (ix2 0 (chan 1 (pg t) q)) := by
  refine Eq.trans ?_ (bias m c (chan 1 (pg t) q))
  have hi := (idx_all t).2.2.2.2.2.2.2.2.2.1
  refine congrArg (V m c main_v2) (funext fun a => Fin.ext ?_)
  match a with
  | ⟨0, _⟩ => show win0_9.index t 0 * 1 + 1 * 0 = 0; omega
  | ⟨1, _⟩ => show win0_9.index t 1 * 128 + 1 * q.val = 1024 * 1 + 128 * (pg t).val + q.val; omega

theorem blk10 (c : Dev nD) (t : Fin cfg0.N) (q : Fin 128) :
    (iblk m c 10 t : S1x128.Idx → EReal) (ix2 0 q) = (m ((c : Thread nD τ).loc main_arg3) : S1x3072.Idx → EReal) (ix2 0 (chan 2 (pg t) q)) := by
  refine Eq.trans ?_ (bias m c (chan 2 (pg t) q))
  have hi := (idx_all t).2.2.2.2.2.2.2.2.2.2.1
  refine congrArg (V m c main_v2) (funext fun a => Fin.ext ?_)
  match a with
  | ⟨0, _⟩ => show win0_10.index t 0 * 1 + 1 * 0 = 0; omega
  | ⟨1, _⟩ => show win0_10.index t 1 * 128 + 1 * q.val = 1024 * 2 + 128 * (pg t).val + q.val; omega

theorem blk11 (c : Dev nD) (t : Fin cfg0.N) (h : Fin 2) :
    (iblk m c 11 t : S1x128.Idx → EReal) (ix2 0 (lane (pg t) h)) = (m ((c : Thread nD τ).loc main_arg4) : S1x16.Idx → EReal) (ix2 0 (head (pg t) h)) := by
  refine Eq.trans ?_ (stepBias m c (pg t) h)
  have hi := (idx_all t).2.2.2.2.2.2.2.2.2.2.2.1
  refine congrArg (V m c main_v5) (funext fun a => Fin.ext ?_)
  match a with
  | ⟨0, _⟩ => show win0_11.index t 0 * 1 + 1 * 0 = 0; omega
  | ⟨1, _⟩ => show win0_11.index t 1 * 128 + 1 * (lane (pg t) h).val = (lane (pg t) h).val; omega

theorem blk12 (c : Dev nD) (t : Fin cfg0.N) (h : Fin 2) :
    (iblk m c 12 t : S1x128.Idx → EReal) (ix2 0 (lane (pg t) h)) = (m ((c : Thread nD τ).loc main_arg5) : S1x16.Idx → EReal) (ix2 0 (head (pg t) h)) := by
  refine Eq.trans ?_ (decayLog m c (pg t) h)
  have hi := (idx_all t).2.2.2.2.2.2.2.2.2.2.2.2.1
  refine congrArg (V m c main_v8) (funext fun a => Fin.ext ?_)
  match a with
  | ⟨0, _⟩ => show win0_12.index t 0 * 1 + 1 * 0 = 0; omega
  | ⟨1, _⟩ => show win0_12.index t 1 * 128 + 1 * (lane (pg t) h).val = (lane (pg t) h).val; omega

theorem blk13 (c : Dev nD) (t : Fin cfg0.N) (q : Fin 128) :
    (iblk m c 13 t : S1x128.Idx → EReal) (ix2 0 q) = (m ((c : Thread nD τ).loc main_arg6) : S1x16.Idx → EReal) (ix2 0 (head (pg t) (hd q))) := by
  refine Eq.trans ?_ (skip m c (pg t) q)
  have hi := (idx_all t).2.2.2.2.2.2.2.2.2.2.2.2.2.1
  refine congrArg (V m c main_v12) (funext fun a => Fin.ext ?_)
  match a with
  | ⟨0, _⟩ => show win0_13.index t 0 * 1 + 1 * 0 = 0; omega
  | ⟨1, _⟩ => show win0_13.index t 1 * 128 + 1 * q.val = 128 * (pg t).val + q.val; omega

theorem blk14 (c : Dev nD) (t : Fin cfg0.N) (q : Fin 128) :
    (iblk m c 14 t : S1x128.Idx → EReal) (ix2 0 q) = (m ((c : Thread nD τ).loc main_arg7) : S1x1024.Idx → EReal) (ix2 0 (ocol (pg t) q)) := by
  refine Eq.trans ?_ (normW m c (ocol (pg t) q))
  have hi := (idx_all t).2.2.2.2.2.2.2.2.2.2.2.2.2.2.1
  refine congrArg (V m c main_v14) (funext fun a => Fin.ext ?_)
  match a with
  | ⟨0, _⟩ => show win0_14.index t 0 * 1 + 1 * 0 = 0; omega
  | ⟨1, _⟩ => show win0_14.index t 1 * 128 + 1 * q.val = 128 * (pg t).val + q.val; omega

/-- The layer's result out of the launch's arguments. -/
abbrev res (c : Dev nD) (b : Fin 16) (g : Fin 8) (t : Fin 2048) (q : Fin 128) : EReal :=
  final (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) b g t q

/-- What a grid point leaves in the result's staging buffer. -/
theorem outs_eq (c : Dev nD) (t : Fin cfg0.N) (r : Fin 2048) (q : Fin 128) :
    (outsAt0 m c t : S2048x128.Idx → EReal) (ix2 r q) = res m c (pb t) (pg t) r q := by
  unfold outsAt0
  refine (out_eq ..).trans ?_
  unfold block res final
  refine result_congr ?_ ?_ ?_ ?_ ?_ ?_ ?_ ?_ _ _ _
  · intro t' q'; unfold mixed; simp only [blk0, blk5, blk8]; rfl
  · intro t' q'; unfold mixed; simp only [blk1, blk6, blk9]; rfl
  · intro t' q'; unfold mixed; simp only [blk2, blk7, blk10]; rfl
  · intro t' q'; exact blk3 m c t t' q'
  · intro h t'; unfold step; exact congrArg softplus (congrArg₂ (· + ·) (blk4 m c t t' _) (blk11 m c t h))
  · intro h t'; unfold logDecay step
    exact congrArg₂ (· * ·) (congrArg softplus (congrArg₂ (· + ·) (blk4 m c t t' _) (blk11 m c t h)))
      (congrArg (fun x => -Ideal.exp x) (blk12 m c t h))
  · intro q'; exact blk13 m c t q'
  · intro q'; exact blk14 m c t q'

/-! ## The result array -/

theorem coords_eq : ∀ t : Fin cfg0.N, ((pb t).val = t.val / 8 ∧ (pg t).val = t.val % 8) ∧ (cfg0.win 15).flush t = true := by
  unfold pb pg
  decide +kernel

/-- A batch row and a group name a grid point. -/
theorem point_of (b : Fin 16) (g : Fin 8) : ∃ t : Fin cfg0.N, pb t = b ∧ pg t = g ∧ (cfg0.win 15).flush t = true := by
  have hN : cfg0.N = 128 := N_0
  have hlt : 8 * b.val + g.val < cfg0.N := by omega
  obtain ⟨⟨h1, h2⟩, hf⟩ := coords_eq ⟨8 * b.val + g.val, hlt⟩
  exact ⟨_, Fin.ext (h1.trans (by show (8 * b.val + g.val) / 8 = b.val; omega)),
    Fin.ext (h2.trans (by show (8 * b.val + g.val) % 8 = g.val; omega)), hf⟩

/-- The result array, element by element. -/
theorem array_eq (c : Dev nD) (b : Fin 16) (g : Fin 8) (r : Fin 2048) (q : Fin 128) :
    ((dats m 0 c).arrAt 15 cfg0.N : S32768x1024.Idx → EReal) (ix2 (at_ b r) (ocol g q)) = res m c b g r q := by
  obtain ⟨t, rfl, rfl, hf⟩ := point_of b g
  refine Eq.trans ?_ (outs_eq m c t r q)
  have hb := (Value.blocks15 m c t hf).trans (Value.flushed15 m c t)
  refine Eq.trans ?_ (congrFun hb (ix2 r q))
  have hi := (idx_all t).2.2.2.2.2.2.2.2.2.2.2.2.2.2.2
  refine congrArg ((dats m 0 c).arrAt 15 cfg0.N) (funext fun a => Fin.ext ?_)
  match a with
  | ⟨0, _⟩ => show 2048 * (pb t).val + r.val = win0_15.index t 0 * 2048 + 1 * r.val; omega
  | ⟨1, _⟩ => show 128 * (pg t).val + q.val = win0_15.index t 1 * 128 + 1 * q.val; omega

end Cert.SsdIdeal.Val

end
-- ==== Proof.SsdRefConv.lean ====
/-
  The reference's convolution: the padded channels, the four taps and their bias and activation, at an index.
-/
module

public import proofs.«01_k».proof.Proof.SsdFinal
public import proofs.«01_k».proof.Proof.Gen.SsdRefIdeal.Read
public import Idealize.ShloMosaic.Lib.Pointwise
public import Idealize.ShloMosaic.Lib.ValueLayout
public import Idealize.ShloMosaic.Lib.KernelVsHost

set_option maxRecDepth 16384

@[expose] public section

noncomputable section

namespace Cert.SsdRefIdeal.Rd

open Idealize.ShloMosaic Cert.SsdRefIdeal Cert.SsdRefIdeal.Gen Cert.SsdRefIdeal.Read Cert.SsdSpec

variable (x0 : S32768x7168.Idx → EReal) (x1 : S32768x128.Idx → EReal) (x2 : S1x4x3072.Idx → EReal)
  (x3 : S1x3072.Idx → EReal) (x4 x5 x6 : S1x16.Idx → EReal) (x7 : S1x1024.Idx → EReal)

/-- The projection's column that feeds the convolution's channel `ch`. -/
def ccol (ch : Fin 3072) : Fin 7168 := ⟨4096 + ch.val, by omega⟩

/-- The convolution's channels before it. -/
theorem channels (b : Fin 16) (t : Fin 2048) (ch : Fin 3072) :
    (val_main_v5 (F := Ideal) x0 (ix3 b t ch) : EReal) = x0 (ix2 (at_ b t) (ccol ch)) := by
  simp only [val_main_v5_apply, val_main_v1_apply, val_main_v0_apply]
  refine congrArg x0 (funext fun a => Fin.ext ?_)
  match a with
  | ⟨0, _⟩ => show ((b.val * 2048 + t.val) * 7168 + (4096 + ch.val)) / 7168 = 2048 * b.val + t.val; omega
  | ⟨1, _⟩ => show ((b.val * 2048 + t.val) * 7168 + (4096 + ch.val)) % 7168 = 4096 + ch.val; omega

/-- The channels with three zero rows in front. -/
theorem padded (b : Fin 16) (u : Fin 2051) (ch : Fin 3072) :
    (val_main_v6 (F := Ideal) x0 (ix3 b u ch) : EReal)
      = if h : 3 ≤ u.val then x0 (ix2 (at_ b ⟨u.val - 3, by omega⟩) (ccol ch)) else 0 := by
  have e := channels x0 b
  unfold val_main_v6
  generalize val_main_v5 (F := Ideal) x0 = y at e
  pointwise [val_main_call0_v0, val_main_c]
  have z : (FloatOps.sitofp (F := Ideal) FTy.f32 0#32 : EReal) = 0 := Idealize.ShloMosaic.sitofp_zero (φ := .f32)
  by_cases h : 3 ≤ u.val
  · rw [dif_pos ⟨h, by omega⟩, dif_pos h, e]
  · rw [dif_neg (fun q => h q.1), dif_neg h, z]

/-- One tap: the channels `3 - j` rows back. -/
theorem tapped (b : Fin 16) (t : Fin 2048) (ch : Fin 3072) (j : Fin 4) :
    (val_main_v6 (F := Ideal) x0 (ix3 b ⟨t.val + j.val, by omega⟩ ch) : EReal)
      = tap (fun t => x0 (ix2 (at_ b t) (ccol ch))) t j := padded x0 b _ ch

/-- The convolution and its bias. -/
theorem convolved (b : Fin 16) (t : Fin 2048) (ch : Fin 3072) :
    (val_main_v45 (F := Ideal) x0 x2 x3 (ix3 b t ch) : EReal)
      = conv (fun j => x2 (ix3 0 j ch)) (x3 (ix2 0 ch)) (fun t => x0 (ix2 (at_ b t) (ccol ch))) t := by
  have e0 := tapped x0 b t ch 0
  have e1 := tapped x0 b t ch 1
  have e2 := tapped x0 b t ch 2
  have e3 := tapped x0 b t ch 3
  have w : ∀ j : Fin 4, (val_main_v7 (F := Ideal) x2 (ix2 j ch) : EReal) = x2 (ix3 0 j ch) := fun j =>
    ValueIdx.shapeCast_1ab_ab_apply _ _ j ch
  have w0 := w 0
  have w1 := w 1
  have w2 := w 2
  have w3 := w 3
  unfold conv silu
  rw [← e0, ← e1, ← e2, ← e3]
  simp only [← w]
  pointwise [val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_cst, val_main_cst_0]
  simp only [Nat.add_comm 1 t.val, Nat.add_comm 2 t.val, Nat.add_comm 3 t.val]
  rfl

/-! ## Positions as the reference counts them -/

theorem at_swap (b : Fin 16) (t : Fin 2048) (h) : (⟨b.val * 2048 + t.val, h⟩ : Fin 32768) = at_ b t :=
  Fin.ext (by show b.val * 2048 + t.val = 2048 * b.val + t.val; omega)

theorem row_swap (c : Fin 16) (l : Fin 128) (h) : (⟨c.val * 128 + l.val, h⟩ : Fin 2048) = row c.val l :=
  Fin.ext (by show c.val * 128 + l.val = (128 * c.val + l.val) % 2048; omega)

theorem head_swap (g : Fin 8) (k : Fin 2) (h) : (⟨g.val * 2 + k.val, h⟩ : Fin 16) = head g k :=
  Fin.ext (by show g.val * 2 + k.val = 2 * g.val + k.val; omega)

theorem ocol_swap (g : Fin 8) (q : Fin 128) (h) : (⟨g.val * 128 + q.val, h⟩ : Fin 1024) = ocol g q :=
  Fin.ext (by show g.val * 128 + q.val = 128 * g.val + q.val; omega)

/-- Lane `p` of head `k` of the group's two. -/
def lane (k : Fin 2) (p : Fin 64) : Fin 128 := ⟨64 * k.val + p.val, by omega⟩

theorem hd_lane (k : Fin 2) (p : Fin 64) : hd (lane k p) = k := by
  unfold hd lane
  refine Fin.ext ?_
  split <;> rename_i h <;> simp only [Fin.val_zero, Fin.val_one] at h ⊢ <;> omega

theorem lane_swap (g : Fin 8) (k : Fin 2) (p : Fin 64) (h) :
    (⟨(g.val * 2 + k.val) * 64 + p.val, h⟩ : Fin 1024) = ocol g (lane k p) :=
  Fin.ext (by show (g.val * 2 + k.val) * 64 + p.val = 128 * g.val + (64 * k.val + p.val); omega)

theorem mixed_eq (b : Fin 16) (g : Fin 8) (k : Fin 3) (t : Fin 2048) (q : Fin 128) :
    mixed x0 x2 x3 b g k t q = val_main_v45 (F := Ideal) x0 x2 x3 (ix3 b t (chan k g q)) := by
  have e : pcol k.succ g q = ccol (chan k g q) := Fin.ext (by
    show 3072 + 1024 * (k.val + 1) + 128 * g.val + q.val = 4096 + (1024 * k.val + 128 * g.val + q.val); omega)
  unfold mixed
  rw [e, convolved]

/-- The three blocks of channels. -/
theorem mixed_x (b : Fin 16) (t : Fin 2048) (g : Fin 8) (q : Fin 128) :
    (val_main_v46 (F := Ideal) x0 x2 x3 (ix3 b t (ocol g q)) : EReal) = mixed x0 x2 x3 b g 0 t q := by
  rw [mixed_eq]
  unfold val_main_v46
  generalize val_main_v45 (F := Ideal) x0 x2 x3 = y
  pointwise []
  exact congrArg y (congrArg (ix3 b t) (Fin.ext (by
    show 128 * g.val + q.val = 1024 * 0 + 128 * g.val + q.val; omega)))

theorem mixed_b (b : Fin 16) (t : Fin 2048) (g : Fin 8) (q : Fin 128) :
    (val_main_v47 (F := Ideal) x0 x2 x3 (ix3 b t (ocol g q)) : EReal) = mixed x0 x2 x3 b g 1 t q := by
  rw [mixed_eq]
  unfold val_main_v47
  generalize val_main_v45 (F := Ideal) x0 x2 x3 = y
  pointwise []
  exact congrArg y (congrArg (ix3 b t) (Fin.ext (by
    show 1024 + (128 * g.val + q.val) = 1024 * 1 + 128 * g.val + q.val; omega)))

theorem mixed_c (b : Fin 16) (t : Fin 2048) (g : Fin 8) (q : Fin 128) :
    (val_main_v48 (F := Ideal) x0 x2 x3 (ix3 b t (ocol g q)) : EReal) = mixed x0 x2 x3 b g 2 t q := by
  rw [mixed_eq]
  unfold val_main_v48
  generalize val_main_v45 (F := Ideal) x0 x2 x3 = y
  pointwise []
  exact congrArg y (congrArg (ix3 b t) (Fin.ext (by
    show 2048 + (128 * g.val + q.val) = 1024 * 2 + 128 * g.val + q.val; omega)))

/-- The step size. -/
theorem step_ref (b : Fin 16) (t : Fin 2048) (g : Fin 8) (h : Fin 2) :
    (val_main_v53 (F := Ideal) x1 x4 (ix3 b t (head g h)) : EReal) = step x1 x4 b g h t := by
  unfold step softplus
  pointwise [val_main_v53, val_main_v52, val_main_v51, val_main_v50, val_main_v49, val_main_v3, val_main_v2, val_main_call1_v11, val_main_call1_v10, val_main_call1_v9, val_main_call1_v8, val_main_call1_v7, val_main_call1_v6, val_main_call1_v5, val_main_call1_v4, val_main_call1_v3, val_main_call1_v2, val_main_call1_v1, val_main_call1_v0, val_main_call1_cst]
  rw [if_neg (not_not_intro rfl), at_swap]
  rfl

/-- The log of the decay. -/
theorem logDecay_ref (b : Fin 16) (t : Fin 2048) (g : Fin 8) (h : Fin 2) :
    (val_main_v64 (F := Ideal) x1 x4 x5 (ix3 b t (head g h)) : EReal) = logDecay x1 x4 x5 b g h t := by
  unfold logDecay
  rw [← step_ref]
  generalize hy : val_main_v53 (F := Ideal) x1 x4 = y
  pointwise [val_main_v64, val_main_v63, val_main_v62, val_main_v56, val_main_v55, val_main_v54]
  rw [hy]

end Cert.SsdRefIdeal.Rd
-- ==== Proof.SsdRefChunk.lean ====
/-
  The reference's chunks: the running sums of the log decays, the decays between the rows of a chunk, the chunk's own
  contribution and the state it adds.
-/
module

public import proofs.«01_k».proof.Proof.SsdRefConv
public import proofs.«01_k».proof.Proof.SsdTrip

set_option maxRecDepth 16384

@[expose] public section

noncomputable section

namespace Cert.SsdRefIdeal.Rd

open Idealize.ShloMosaic Cert.SsdRefIdeal Cert.SsdRefIdeal.Gen Cert.SsdRefIdeal.Read Cert.SsdSpec

variable (x0 : S32768x7168.Idx → EReal) (x1 : S32768x128.Idx → EReal) (x2 : S1x4x3072.Idx → EReal)
  (x3 : S1x3072.Idx → EReal) (x4 x5 x6 : S1x16.Idx → EReal) (x7 : S1x1024.Idx → EReal)

/-! ## The running sum over a window that ends at the row -/

/-- Adding up a list's values from zero is the sum over its index. -/
theorem fold_sum {n : ℕ} (f : Fin n → EReal) : (List.finRange n).foldl (fun r k => r + f k) 0 = ∑ k, f k := by
  rw [← List.sum_ofFn, List.ofFn_eq_map, List.sum_eq_foldl, List.foldl_map]

theorem fold_congr {n : ℕ} {f g : EReal → Fin n → EReal} {v w : EReal} (hv : v = w) (h : ∀ r k, f r k = g r k) :
    (List.finRange n).foldl f v = (List.finRange n).foldl g w := by
  rw [hv, funext fun r => funext (h r)]

/-- A chunk's rows as the window's positions. -/
def winEquiv : (⟨5, ![1, 1, 128, 1, 1]⟩ : Shape).Idx ≃ Fin 128 where
  toFun k := k 2
  invFun n := ix5 0 0 n 0 0
  left_inv k := by
    refine funext fun a => ?_
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
    | ⟨4, _⟩ => exact Subsingleton.elim (α := Fin 1) _ _
  right_inv n := rfl

/-- A window of 128 rows ending at row `l`, zero outside the chunk, adds up the rows up to `l`. -/
theorem window_sum (f : Fin 128 → EReal) (l : Fin 128) :
    (∑ n : Fin 128, if h : 127 ≤ l.val + n.val ∧ l.val + n.val - 127 < 128 then f ⟨l.val + n.val - 127, h.2⟩ else 0)
      = ∑ s : Fin 128, if s.val ≤ l.val then f s else 0 := by
  rw [← Equiv.sum_comp (Equiv.addRight (l + 1)) (fun s : Fin 128 => if s.val ≤ l.val then f s else 0)]
  refine Finset.sum_congr rfl fun n _ => ?_
  have e : (n + (l + 1)).val = (n.val + (l.val + 1)) % 128 := by
    rw [Fin.val_add, Fin.val_add]
    show (n.val + (l.val + 1) % 128) % 128 = _
    omega
  show _ = if (n + (l + 1)).val ≤ l.val then f (n + (l + 1)) else 0
  by_cases h : 127 ≤ l.val + n.val
  · rw [dif_pos ⟨h, by omega⟩, if_pos (by rw [e]; omega)]
    exact congrArg f (Fin.ext (by rw [e]; show l.val + n.val - 127 = _; omega))
  · rw [dif_neg (fun q => h q.1), if_neg (by rw [e]; omega)]

/-- The log decays by chunk. -/
theorem chunked (b c : Fin 16) (l : Fin 128) (g : Fin 8) (h : Fin 2) :
    (val_main_v65 (F := Ideal) x1 x4 x5 (ix5 b c l g h) : EReal) = logDecay x1 x4 x5 b g h (row c.val l) := by
  rw [← logDecay_ref]
  unfold val_main_v65
  generalize val_main_v64 (F := Ideal) x1 x4 x5 = y
  pointwise []
  rw [row_swap, head_swap]

/-- One position of the window: the row it names, or zero outside the chunk. -/
theorem window_term (b c : Fin 16) (l : Fin 128) (g : Fin 8) (h : Fin 2) (y : S16x16x128x8x2.Idx → EReal) (v : EReal)
    (hv : v = 0) (k : (⟨5, ![1, 1, 128, 1, 1]⟩ : Shape).Idx)
    {dec : Decidable (∀ a : Fin 5, (![0, 0, 127, 0, 0] : Fin 5 → ℕ) a
          ≤ (ix5 b c l g h a).val * (![1, 1, 1, 1, 1] : Fin 5 → ℕ) a + (k a).val
        ∧ (ix5 b c l g h a).val * (![1, 1, 1, 1, 1] : Fin 5 → ℕ) a + (k a).val - (![0, 0, 127, 0, 0] : Fin 5 → ℕ) a
          < S16x16x128x8x2.size a)} :
    (if hin : ∀ a : Fin 5, (![0, 0, 127, 0, 0] : Fin 5 → ℕ) a
          ≤ (ix5 b c l g h a).val * (![1, 1, 1, 1, 1] : Fin 5 → ℕ) a + (k a).val
        ∧ (ix5 b c l g h a).val * (![1, 1, 1, 1, 1] : Fin 5 → ℕ) a + (k a).val - (![0, 0, 127, 0, 0] : Fin 5 → ℕ) a
          < S16x16x128x8x2.size a
      then y (fun a => ⟨(ix5 b c l g h a).val * (![1, 1, 1, 1, 1] : Fin 5 → ℕ) a + (k a).val
        - (![0, 0, 127, 0, 0] : Fin 5 → ℕ) a, (hin a).2⟩) else v)
      = if h' : 127 ≤ l.val + (winEquiv k).val ∧ l.val + (winEquiv k).val - 127 < 128
        then y (ix5 b c ⟨l.val + (winEquiv k).val - 127, h'.2⟩ g h) else 0 := by
  obtain ⟨n, rfl⟩ := winEquiv.symm.surjective k
  rw [Equiv.apply_symm_apply]
  by_cases hc : 127 ≤ l.val + n.val ∧ l.val + n.val - 127 < 128
  · rw [dif_pos hc, dif_pos]
    · refine congrArg y (funext fun a => Fin.ext ?_)
      match a with
      | ⟨0, _⟩ => show b.val * 1 + 0 - 0 = b.val; omega
      | ⟨1, _⟩ => show c.val * 1 + 0 - 0 = c.val; omega
      | ⟨2, _⟩ => show l.val * 1 + n.val - 127 = l.val + n.val - 127; omega
      | ⟨3, _⟩ => show g.val * 1 + 0 - 0 = g.val; omega
      | ⟨4, _⟩ => show h.val * 1 + 0 - 0 = h.val; omega
    · intro a
      match a with
      | ⟨0, _⟩ => show 0 ≤ b.val * 1 + 0 ∧ b.val * 1 + 0 - 0 < 16; omega
      | ⟨1, _⟩ => show 0 ≤ c.val * 1 + 0 ∧ c.val * 1 + 0 - 0 < 16; omega
      | ⟨2, _⟩ => show 127 ≤ l.val * 1 + n.val ∧ l.val * 1 + n.val - 127 < 128; omega
      | ⟨3, _⟩ => show 0 ≤ g.val * 1 + 0 ∧ g.val * 1 + 0 - 0 < 8; omega
      | ⟨4, _⟩ => show 0 ≤ h.val * 1 + 0 ∧ h.val * 1 + 0 - 0 < 2; omega
  · rw [dif_neg hc, dif_neg]
    · exact hv
    · intro q
      have q2 : 127 ≤ l.val * 1 + n.val ∧ l.val * 1 + n.val - 127 < 128 := q (2 : Fin 5)
      rw [Nat.mul_one] at q2
      exact hc q2

/-- The running sums. -/
theorem acs_ref (b c : Fin 16) (l : Fin 128) (g : Fin 8) (h : Fin 2) :
    (val_main_v66 (F := Ideal) x1 x4 x5 (ix5 b c l g h) : EReal)
      = acs (fun l => logDecay x1 x4 x5 b g h (row c.val l)) l := by
  have e := fun l => chunked x1 x4 x5 b c l g h
  unfold acs
  simp only [← e]
  unfold val_main_v66
  generalize val_main_v65 (F := Ideal) x1 x4 x5 = y
  rw [← window_sum (fun l => y (ix5 b c l g h)) l, ← Equiv.sum_comp winEquiv,
    ← Equiv.sum_comp (⟨5, ![1, 1, 128, 1, 1]⟩ : Shape).rowMajor.symm, ← fold_sum]
  refine fold_congr ?_ fun r n => congrArg (r + ·) ?_
  · show (val_main_call2_call0_v0 (F := Ideal) _ : EReal) = 0
    pointwise [val_main_call2_call0_v0, val_main_call2_call0_cst]
  exact window_term b c l g h y (val_main_call2_call0_v0 (F := Ideal) (Shape.Idx.first h_S_)) (by pointwise [val_main_call2_call0_v0, val_main_call2_call0_cst]) _

/-! ## What a row of a chunk holds -/

theorem xdt_ref (b c : Fin 16) (l : Fin 128) (g : Fin 8) (h : Fin 2) (p : Fin 64) :
    (val_main_v61 (F := Ideal) x0 x1 x2 x3 x4 (ix6 b c l g h p) : EReal)
      = mixed x0 x2 x3 b g 0 (row c.val l) (lane h p) * step x1 x4 b g h (row c.val l) := by
  rw [← mixed_x, ← step_ref]
  unfold val_main_v61 val_main_v60 val_main_v59 val_main_v58 val_main_v57
  generalize val_main_v46 (F := Ideal) x0 x2 x3 = y
  generalize val_main_v53 (F := Ideal) x1 x4 = z
  pointwise []
  rw [row_swap, lane_swap, head_swap]

theorem key_ref (b c : Fin 16) (l : Fin 128) (g : Fin 8) (n : Fin 128) :
    (val_main_v67 (F := Ideal) x0 x2 x3 (ix5 b c l g n) : EReal) = mixed x0 x2 x3 b g 1 (row c.val l) n := by
  rw [← mixed_b]
  unfold val_main_v67
  generalize val_main_v47 (F := Ideal) x0 x2 x3 = y
  pointwise []
  rw [row_swap, ocol_swap]

theorem query_ref (b c : Fin 16) (l : Fin 128) (g : Fin 8) (n : Fin 128) :
    (val_main_v68 (F := Ideal) x0 x2 x3 (ix5 b c l g n) : EReal) = mixed x0 x2 x3 b g 2 (row c.val l) n := by
  rw [← mixed_c]
  unfold val_main_v68
  generalize val_main_v48 (F := Ideal) x0 x2 x3 = y
  pointwise []
  rw [row_swap, ocol_swap]

/-- The decay from row `s` to row `l`. -/
theorem decay_ref (b c : Fin 16) (l s : Fin 128) (g : Fin 8) (h : Fin 2) :
    (val_main_v78 (F := Ideal) x1 x4 x5 (ix6 b c l s g h) : EReal)
      = decay (fun l => logDecay x1 x4 x5 b g h (row c.val l)) l s := by
  unfold decay
  rw [← acs_ref, ← acs_ref]
  unfold val_main_v78 val_main_v77 val_main_v75 val_main_v74 val_main_v73 val_main_v72 val_main_v71
  generalize val_main_v66 (F := Ideal) x1 x4 x5 = y
  pointwise [val_main_call4_v0, val_main_call4_v1, val_main_call4_v2, val_main_cst_2, val_main_v76, val_main_v70, val_main_v69, val_main_c_1, val_main_call3_v0, val_main_call3_v1, val_main_call3_v2, val_main_call3_v3, val_main_call3_v4, val_main_call3_v5, val_main_call3_c, val_main_call3_c_0]
  have e : Scalar.select (IntOp.cmpi CmpIPredicate.sge (IntOp.addi (BitVec.ofNat 32 l.val) 0#32) (BitVec.ofNat 32 s.val)) 1#1 0#1
      = BitVec.ofBool (decide (s.val ≤ l.val)) := by
    rw [show IntOp.addi (BitVec.ofNat 32 l.val) 0#32 = BitVec.ofNat 32 l.val from BitVec.add_zero _,
      show IntOp.cmpi CmpIPredicate.sge (BitVec.ofNat 32 l.val) (BitVec.ofNat 32 s.val)
        = IntOp.cmpi CmpIPredicate.sle (BitVec.ofNat 32 s.val) (BitVec.ofNat 32 l.val) from rfl, Cert.SsdIdeal.Val.sle_fin]
    by_cases hs : s.val ≤ l.val
    · rw [decide_eq_true hs]; rfl
    · rw [decide_eq_false hs]; rfl
  rw [e]
  refine congrArg Ideal.exp ?_
  by_cases hs : s.val ≤ l.val
  · rw [decide_eq_true hs, if_pos hs]; rfl
  · rw [decide_eq_false hs, if_neg hs]; exact Cert.SsdIdeal.Val.negInf

/-- The chunk's own contribution. -/
theorem within_ref (b c : Fin 16) (l : Fin 128) (g : Fin 8) (h : Fin 2) (p : Fin 64) :
    (val_main_v85 (F := Ideal) x0 x1 x2 x3 x4 x5 (ix6 b c l g h p) : EReal)
      = ∑ s : Fin 128, ((∑ n : Fin 128, mixed x0 x2 x3 b g 2 (row c.val l) n * mixed x0 x2 x3 b g 1 (row c.val s) n)
          * decay (fun l => logDecay x1 x4 x5 b g h (row c.val l)) l s)
          * (mixed x0 x2 x3 b g 0 (row c.val s) (lane h p) * step x1 x4 b g h (row c.val s)) := by
  simp only [← decay_ref, ← xdt_ref, ← key_ref, ← query_ref]
  unfold val_main_v85
  have e1 := val_main_v84_apply x0 x1 x2 x3 x4 x5 (ix6 b c g h p l)
  have e2 : ∀ s, val_main_v83 (F := Ideal) x0 x1 x2 x3 x4 x5 (ix6 b c l s g h)
      = val_main_v79 (F := Ideal) x0 x2 x3 (ix5 b c g s l) * val_main_v78 (F := Ideal) x1 x4 x5 (ix6 b c l s g h) := by
    intro s
    unfold val_main_v83 val_main_v82 val_main_v81 val_main_v80
    generalize val_main_v79 (F := Ideal) x0 x2 x3 = y
    generalize val_main_v78 (F := Ideal) x1 x4 x5 = z
    pointwise []
  have e3 : ∀ s, val_main_v79 (F := Ideal) x0 x2 x3 (ix5 b c g s l)
      = ∑ n : Fin 128, val_main_v68 (F := Ideal) x0 x2 x3 (ix5 b c l g n) * val_main_v67 (F := Ideal) x0 x2 x3 (ix5 b c s g n) := by
    intro s
    rw [val_main_v79_apply]
    refine Finset.sum_congr rfl fun n _ => ?_
    rw [mul_comm]
    refine congr (congrArg HMul.hMul (congrArg _ (eq_ix5 _))) (congrArg _ (eq_ix5 _))
  have e4 : transpose S16x16x128x8x2x64 [0, 1, 5, 2, 3, 4] (val_main_v84 (F := Ideal) x0 x1 x2 x3 x4 x5) transposes_S16x16x8x2x64x128_S16x16x128x8x2x64_0_1_5_2_3_4 (ix6 b c l g h p) = val_main_v84 (F := Ideal) x0 x1 x2 x3 x4 x5 (ix6 b c g h p l) := by
    generalize val_main_v84 (F := Ideal) x0 x1 x2 x3 x4 x5 = y
    pointwise []
  rw [e4, e1]
  refine Finset.sum_congr rfl fun s _ => ?_
  rw [mul_comm, ← e3, ← e2]
  refine congr (congrArg HMul.hMul (congrArg _ (eq_ix6 _))) (congrArg _ (eq_ix6 _))

/-- The decay of the state over a whole chunk. -/
theorem whole_ref (b c : Fin 16) (g : Fin 8) (h : Fin 2) :
    (val_main_v96 (F := Ideal) x1 x4 x5 (ix4 b c g h) : EReal)
      = Ideal.exp (acs (fun l => logDecay x1 x4 x5 b g h (row c.val l)) 127) := by
  rw [← acs_ref]
  unfold val_main_v96 val_main_v95 val_main_v94
  generalize val_main_v66 (F := Ideal) x1 x4 x5 = y
  pointwise []

/-- What a chunk adds to the state. -/
theorem added_ref (b c : Fin 16) (g : Fin 8) (h : Fin 2) (p : Fin 64) (n : Fin 128) :
    (val_main_v93 (F := Ideal) x0 x1 x2 x3 x4 x5 (ix6 b c g h p n) : EReal)
      = ∑ l : Fin 128, mixed x0 x2 x3 b g 1 (row c.val l) n
          * ((mixed x0 x2 x3 b g 0 (row c.val l) (lane h p) * step x1 x4 b g h (row c.val l))
            * Ideal.exp (acs (fun l => logDecay x1 x4 x5 b g h (row c.val l)) 127
              - acs (fun l => logDecay x1 x4 x5 b g h (row c.val l)) l)) := by
  simp only [← acs_ref, ← xdt_ref, ← key_ref]
  have e : ∀ l, val_main_v92 (F := Ideal) x0 x1 x2 x3 x4 x5 (ix6 b c l g h p)
      = val_main_v61 (F := Ideal) x0 x1 x2 x3 x4 (ix6 b c l g h p)
        * Ideal.exp (val_main_v66 (F := Ideal) x1 x4 x5 (ix5 b c 127 g h) - val_main_v66 (F := Ideal) x1 x4 x5 (ix5 b c l g h)) := by
    intro l
    rw [mul_comm]
    unfold val_main_v92 val_main_v91 val_main_v90 val_main_v89 val_main_v88 val_main_v87 val_main_v86
    generalize val_main_v61 (F := Ideal) x0 x1 x2 x3 x4 = y
    generalize val_main_v66 (F := Ideal) x1 x4 x5 = z
    pointwise []
  rw [val_main_v93_apply]
  refine Finset.sum_congr rfl fun l _ => ?_
  rw [← e, mul_comm]
  refine congr (congrArg HMul.hMul (congrArg _ (eq_ix5 _))) (congrArg _ (eq_ix6 _))

end Cert.SsdRefIdeal.Rd
-- ==== Proof.SsdRefState.lean ====
/-
  The reference's states: the carry from chunk to chunk, the carries laid side by side, and what the entering state
  contributes to a row.
-/
module

public import proofs.«01_k».proof.Proof.SsdRefChunk

set_option maxRecDepth 16384

@[expose] public section

noncomputable section

namespace Cert.SsdRefIdeal.Rd

open Idealize.ShloMosaic Cert.SsdRefIdeal Cert.SsdRefIdeal.Gen Cert.SsdRefIdeal.Read Cert.SsdSpec

/-- One step of the carry as the reference computes it, for chunk `k`: the carried state times the chunk's decay, plus
what the chunk adds. -/
def advance (Y : FVec Ideal S16x8x2x64x128 .f32) (D : FVec Ideal S16x16x8x2 .f32) (A : FVec Ideal S16x16x8x2x64x128 .f32) (k : ℕ)
    (h4 : S16x16x8x2.Slices ![0, k, 0, 0] S16x1x8x2) (h6 : S16x16x8x2x64x128.Slices ![0, k, 0, 0, 0, 0] S16x1x8x2x64x128) :
    FVec Ideal S16x8x2x64x128 .f32 :=
  addf (mulf Y (broadcastInDim S16x8x2x64x128 ![0, 1, 2, 3, 4] bcast_S16x8x2x1x1_S16x8x2x64x128_0_1_2_3_4
      (broadcastInDim S16x8x2x1x1 ![0, 1, 2] bcast_S16x8x2_S16x8x2x1x1_0_1_2
        (shapeCast S16x8x2 (extractStridedSlice S16x1x8x2 ![0, k, 0, 0] D h4) shapeCasts_S16x1x8x2_S16x8x2))))
    (shapeCast S16x8x2x64x128 (extractStridedSlice S16x1x8x2x64x128 ![0, k, 0, 0, 0, 0] A h6)
      shapeCasts_S16x1x8x2x64x128_S16x8x2x64x128)

theorem advance_apply (Y : FVec Ideal S16x8x2x64x128 .f32) (D : FVec Ideal S16x16x8x2 .f32)
    (A : FVec Ideal S16x16x8x2x64x128 .f32) (k : ℕ) (h4) (h6) (hk : k < 16) (b : Fin 16) (g : Fin 8) (h : Fin 2) (p : Fin 64)
    (n : Fin 128) :
    (advance Y D A k h4 h6 (ix5 b g h p n) : EReal)
      = (Y (ix5 b g h p n) : EReal) * D (ix4 b ⟨k, hk⟩ g h) + A (ix6 b ⟨k, hk⟩ g h p n) := by
  pointwise [advance]

/-- Sixteen states laid side by side along a new axis, read back. -/
theorem stacked (Y : Fin 16 → S16x8x2x64x128.Idx → EReal) (b c : Fin 16) (g : Fin 8) (h : Fin 2) (p : Fin 64) (n : Fin 128) :
    (concatenate S16x16x8x2x64x128 1 [⟨S16x1x8x2x64x128, (broadcastInDim S16x1x8x2x64x128 ![0, 2, 3, 4, 5] bcast_S16x8x2x64x128_S16x1x8x2x64x128_0_2_3_4_5 (Y 0) : S16x1x8x2x64x128.Idx → EReal)⟩, ⟨S16x1x8x2x64x128, (broadcastInDim S16x1x8x2x64x128 ![0, 2, 3, 4, 5] bcast_S16x8x2x64x128_S16x1x8x2x64x128_0_2_3_4_5 (Y 1) : S16x1x8x2x64x128.Idx → EReal)⟩, ⟨S16x1x8x2x64x128, (broadcastInDim S16x1x8x2x64x128 ![0, 2, 3, 4, 5] bcast_S16x8x2x64x128_S16x1x8x2x64x128_0_2_3_4_5 (Y 2) : S16x1x8x2x64x128.Idx → EReal)⟩, ⟨S16x1x8x2x64x128, (broadcastInDim S16x1x8x2x64x128 ![0, 2, 3, 4, 5] bcast_S16x8x2x64x128_S16x1x8x2x64x128_0_2_3_4_5 (Y 3) : S16x1x8x2x64x128.Idx → EReal)⟩, ⟨S16x1x8x2x64x128, (broadcastInDim S16x1x8x2x64x128 ![0, 2, 3, 4, 5] bcast_S16x8x2x64x128_S16x1x8x2x64x128_0_2_3_4_5 (Y 4) : S16x1x8x2x64x128.Idx → EReal)⟩, ⟨S16x1x8x2x64x128, (broadcastInDim S16x1x8x2x64x128 ![0, 2, 3, 4, 5] bcast_S16x8x2x64x128_S16x1x8x2x64x128_0_2_3_4_5 (Y 5) : S16x1x8x2x64x128.Idx → EReal)⟩, ⟨S16x1x8x2x64x128, (broadcastInDim S16x1x8x2x64x128 ![0, 2, 3, 4, 5] bcast_S16x8x2x64x128_S16x1x8x2x64x128_0_2_3_4_5 (Y 6) : S16x1x8x2x64x128.Idx → EReal)⟩, ⟨S16x1x8x2x64x128, (broadcastInDim S16x1x8x2x64x128 ![0, 2, 3, 4, 5] bcast_S16x8x2x64x128_S16x1x8x2x64x128_0_2_3_4_5 (Y 7) : S16x1x8x2x64x128.Idx → EReal)⟩, ⟨S16x1x8x2x64x128, (broadcastInDim S16x1x8x2x64x128 ![0, 2, 3, 4, 5] bcast_S16x8x2x64x128_S16x1x8x2x64x128_0_2_3_4_5 (Y 8) : S16x1x8x2x64x128.Idx → EReal)⟩, ⟨S16x1x8x2x64x128, (broadcastInDim S16x1x8x2x64x128 ![0, 2, 3, 4, 5] bcast_S16x8x2x64x128_S16x1x8x2x64x128_0_2_3_4_5 (Y 9) : S16x1x8x2x64x128.Idx → EReal)⟩, ⟨S16x1x8x2x64x128, (broadcastInDim S16x1x8x2x64x128 ![0, 2, 3, 4, 5] bcast_S16x8x2x64x128_S16x1x8x2x64x128_0_2_3_4_5 (Y 10) : S16x1x8x2x64x128.Idx → EReal)⟩, ⟨S16x1x8x2x64x128, (broadcastInDim S16x1x8x2x64x128 ![0, 2, 3, 4, 5] bcast_S16x8x2x64x128_S16x1x8x2x64x128_0_2_3_4_5 (Y 11) : S16x1x8x2x64x128.Idx → EReal)⟩, ⟨S16x1x8x2x64x128, (broadcastInDim S16x1x8x2x64x128 ![0, 2, 3, 4, 5] bcast_S16x8x2x64x128_S16x1x8x2x64x128_0_2_3_4_5 (Y 12) : S16x1x8x2x64x128.Idx → EReal)⟩, ⟨S16x1x8x2x64x128, (broadcastInDim S16x1x8x2x64x128 ![0, 2, 3, 4, 5] bcast_S16x8x2x64x128_S16x1x8x2x64x128_0_2_3_4_5 (Y 13) : S16x1x8x2x64x128.Idx → EReal)⟩, ⟨S16x1x8x2x64x128, (broadcastInDim S16x1x8x2x64x128 ![0, 2, 3, 4, 5] bcast_S16x8x2x64x128_S16x1x8x2x64x128_0_2_3_4_5 (Y 14) : S16x1x8x2x64x128.Idx → EReal)⟩, ⟨S16x1x8x2x64x128, (broadcastInDim S16x1x8x2x64x128 ![0, 2, 3, 4, 5] bcast_S16x8x2x64x128_S16x1x8x2x64x128_0_2_3_4_5 (Y 15) : S16x1x8x2x64x128.Idx → EReal)⟩]
      concatenates_S16x1x8x2x64x128_S16x1x8x2x64x128_S16x1x8x2x64x128_S16x1x8x2x64x128_S16x1x8x2x64x128_S16x1x8x2x64x128_S16x1x8x2x64x128_S16x1x8x2x64x128_S16x1x8x2x64x128_S16x1x8x2x64x128_S16x1x8x2x64x128_S16x1x8x2x64x128_S16x1x8x2x64x128_S16x1x8x2x64x128_S16x1x8x2x64x128_S16x1x8x2x64x128_S16x16x8x2x64x128_d1 : S16x16x8x2x64x128.Idx → EReal) (ix6 b c g h p n) = Y c (ix5 b g h p n) := by
  pointwise []
  fin_vals c with hk
  all_goals simp only [hk, Nat.reduceSub, Nat.reduceLT, ↓reduceDIte]
  all_goals exact congrArg (fun c => Y c (ix5 b g h p n)) (Fin.ext hk.symm)

variable (x0 : S32768x7168.Idx → EReal) (x1 : S32768x128.Idx → EReal) (x2 : S1x4x3072.Idx → EReal)
  (x3 : S1x3072.Idx → EReal) (x4 x5 x6 : S1x16.Idx → EReal) (x7 : S1x1024.Idx → EReal)

/-- The states entering the sixteen chunks. -/
def carries : Fin 16 → S16x8x2x64x128.Idx → EReal :=
  ![val_main_v97 (F := Ideal), val_main_v105 (F := Ideal) x0 x1 x2 x3 x4 x5, val_main_v113 (F := Ideal) x0 x1 x2 x3 x4 x5, val_main_v121 (F := Ideal) x0 x1 x2 x3 x4 x5, val_main_v129 (F := Ideal) x0 x1 x2 x3 x4 x5, val_main_v137 (F := Ideal) x0 x1 x2 x3 x4 x5, val_main_v145 (F := Ideal) x0 x1 x2 x3 x4 x5, val_main_v153 (F := Ideal) x0 x1 x2 x3 x4 x5, val_main_v161 (F := Ideal) x0 x1 x2 x3 x4 x5, val_main_v169 (F := Ideal) x0 x1 x2 x3 x4 x5, val_main_v177 (F := Ideal) x0 x1 x2 x3 x4 x5, val_main_v185 (F := Ideal) x0 x1 x2 x3 x4 x5, val_main_v193 (F := Ideal) x0 x1 x2 x3 x4 x5, val_main_v201 (F := Ideal) x0 x1 x2 x3 x4 x5, val_main_v209 (F := Ideal) x0 x1 x2 x3 x4 x5, val_main_v217 (F := Ideal) x0 x1 x2 x3 x4 x5]

theorem carries_succ (c : ℕ) (hc : c + 1 < 16) (b : Fin 16) (g : Fin 8) (h : Fin 2) (p : Fin 64) (n : Fin 128) :
    carries x0 x1 x2 x3 x4 x5 ⟨c + 1, hc⟩ (ix5 b g h p n)
      = carries x0 x1 x2 x3 x4 x5 ⟨c, by omega⟩ (ix5 b g h p n)
          * (val_main_v96 (F := Ideal) x1 x4 x5 (ix4 b ⟨c, by omega⟩ g h) : EReal)
        + (val_main_v93 (F := Ideal) x0 x1 x2 x3 x4 x5 (ix6 b ⟨c, by omega⟩ g h p n) : EReal) := by
  have s4 : ∀ c : Fin 16, S16x16x8x2.Slices ![0, c.val, 0, 0] S16x1x8x2 := by decide
  have s6 : ∀ c : Fin 16, S16x16x8x2x64x128.Slices ![0, c.val, 0, 0, 0, 0] S16x1x8x2x64x128 := by decide
  rw [← advance_apply _ _ _ c (s4 ⟨c, by omega⟩) (s6 ⟨c, by omega⟩)]
  match c, hc with
  | 0, _ => rfl
  | 1, _ => rfl
  | 2, _ => rfl
  | 3, _ => rfl
  | 4, _ => rfl
  | 5, _ => rfl
  | 6, _ => rfl
  | 7, _ => rfl
  | 8, _ => rfl
  | 9, _ => rfl
  | 10, _ => rfl
  | 11, _ => rfl
  | 12, _ => rfl
  | 13, _ => rfl
  | 14, _ => rfl
  | c + 15, hc => omega

/-- Each carry is the state that enters its chunk. -/
theorem entering_ref (b : Fin 16) (g : Fin 8) (h : Fin 2) (p : Fin 64) (n : Fin 128) (c : ℕ) (hc : c < 16) :
    carries x0 x1 x2 x3 x4 x5 ⟨c, hc⟩ (ix5 b g h p n)
      = entering (mixed x0 x2 x3 b g 0) (mixed x0 x2 x3 b g 1) (step x1 x4 b g) (logDecay x1 x4 x5 b g) c n (lane h p) := by
  induction c generalizing n p h with
  | zero =>
    show (val_main_v97 (F := Ideal) (ix5 b g h p n) : EReal) = 0
    pointwise [val_main_v97, val_main_cst_3]
  | succ c ih =>
    rw [carries_succ, ih, whole_ref, added_ref]
    show _ = nextState _ _ _ _ _ n (lane h p)
    unfold nextState
    rw [hd_lane]

/-- What the entering state contributes to a row. -/
theorem across_ref (b c : Fin 16) (l : Fin 128) (g : Fin 8) (h : Fin 2) (p : Fin 64) :
    (val_main_v244 (F := Ideal) x0 x1 x2 x3 x4 x5 (ix6 b c l g h p) : EReal)
      = ∑ n : Fin 128, mixed x0 x2 x3 b g 2 (row c.val l) n
          * entering (mixed x0 x2 x3 b g 0) (mixed x0 x2 x3 b g 1) (step x1 x4 b g) (logDecay x1 x4 x5 b g) c.val n (lane h p) := by
  have e0 : ∀ n, val_main_v242 (F := Ideal) x0 x1 x2 x3 x4 x5 (ix6 b c g h p n) = carries x0 x1 x2 x3 x4 x5 c (ix5 b g h p n) :=
    fun n => stacked (carries x0 x1 x2 x3 x4 x5) b c g h p n
  have e1 := val_main_v243_apply x0 x1 x2 x3 x4 x5 (ix6 b c g h p l)
  have e2 : (val_main_v244 (F := Ideal) x0 x1 x2 x3 x4 x5 (ix6 b c l g h p) : EReal)
      = val_main_v243 (F := Ideal) x0 x1 x2 x3 x4 x5 (ix6 b c g h p l) := by
    unfold val_main_v244
    generalize val_main_v243 (F := Ideal) x0 x1 x2 x3 x4 x5 = y
    pointwise []
  rw [e2, e1]
  refine Finset.sum_congr rfl fun n _ => ?_
  rw [← query_ref, ← entering_ref x0 x1 x2 x3 x4 x5 b g h p n c.val c.isLt, ← e0, mul_comm]
  refine congr (congrArg HMul.hMul (congrArg _ (eq_ix5 _))) (congrArg _ (eq_ix6 _))

/-- A row of a chunk before the skip. -/
theorem both_ref (b c : Fin 16) (l : Fin 128) (g : Fin 8) (h : Fin 2) (p : Fin 64) :
    (val_main_v249 (F := Ideal) x0 x1 x2 x3 x4 x5 (ix6 b c l g h p) : EReal)
      = val_main_v85 (F := Ideal) x0 x1 x2 x3 x4 x5 (ix6 b c l g h p)
        + (val_main_v244 (F := Ideal) x0 x1 x2 x3 x4 x5 (ix6 b c l g h p) : EReal)
          * Ideal.exp (acs (fun l => logDecay x1 x4 x5 b g h (row c.val l)) l) := by
  rw [← acs_ref]
  unfold val_main_v249 val_main_v248 val_main_v247 val_main_v246 val_main_v245
  generalize val_main_v85 (F := Ideal) x0 x1 x2 x3 x4 x5 = y
  generalize val_main_v244 (F := Ideal) x0 x1 x2 x3 x4 x5 = z
  generalize val_main_v66 (F := Ideal) x1 x4 x5 = w
  pointwise []

end Cert.SsdRefIdeal.Rd
-- ==== Proof.SsdRefLast.lean ====
/-
  The reference's result at an index: the skip, the gate and the grouped norm over the recurrence, and with them the
  recurrence of `SsdFinal`.
-/
module

public import proofs.«01_k».proof.Proof.SsdRefState

set_option maxRecDepth 16384

@[expose] public section

noncomputable section

namespace Cert.SsdRefIdeal.Rd

open Idealize.ShloMosaic Cert.SsdRefIdeal Cert.SsdRefIdeal.Gen Cert.SsdRefIdeal.Read Cert.SsdSpec

variable (x0 : S32768x7168.Idx → EReal) (x1 : S32768x128.Idx → EReal) (x2 : S1x4x3072.Idx → EReal)
  (x3 : S1x3072.Idx → EReal) (x4 x5 x6 : S1x16.Idx → EReal) (x7 : S1x1024.Idx → EReal)

theorem row_split (t : Fin 2048) : row (t.val / 128) ⟨t.val % 128, Nat.mod_lt _ (by norm_num)⟩ = t :=
  Fin.ext (by show (128 * (t.val / 128) + t.val % 128) % 2048 = t.val; omega)

theorem lane_split (q : Fin 128) : lane (hd q) ⟨q.val % 64, Nat.mod_lt _ (by norm_num)⟩ = q := by
  refine Fin.ext ?_
  unfold lane hd
  split <;> rename_i h <;> simp only [Fin.val_zero, Fin.val_one] <;> omega

theorem at_div (b : Fin 16) (t : Fin 2048) (h) : (⟨(at_ b t).val / 2048, h⟩ : Fin 16) = b :=
  Fin.ext (by show (2048 * b.val + t.val) / 2048 = b.val; omega)

theorem at_mod (b : Fin 16) (t : Fin 2048) (h) : (⟨(at_ b t).val % 2048, h⟩ : Fin 2048) = t :=
  Fin.ext (by show (2048 * b.val + t.val) % 2048 = t.val; omega)

theorem ocol_div (g : Fin 8) (q : Fin 128) (h) : (⟨(ocol g q).val / 128, h⟩ : Fin 8) = g :=
  Fin.ext (by show (128 * g.val + q.val) / 128 = g.val; omega)

theorem ocol_mod (g : Fin 8) (q : Fin 128) (h) : (⟨(ocol g q).val % 128, h⟩ : Fin 128) = q :=
  Fin.ext (by show (128 * g.val + q.val) % 128 = q.val; omega)

theorem ocol_head (g : Fin 8) (q : Fin 128) (h) : (⟨(ocol g q).val / 64, h⟩ : Fin 16) = head g (hd q) := by
  refine Fin.ext ?_
  show (128 * g.val + q.val) / 64 = 2 * g.val + (hd q).val
  unfold hd
  split <;> rename_i h <;> simp only [Fin.val_zero, Fin.val_one] <;> omega

theorem ocol_pos (g : Fin 8) (q : Fin 128) (h) (h') : (⟨(ocol g q).val % 64, h⟩ : Fin 64) = ⟨q.val % 64, h'⟩ :=
  Fin.ext (by show (128 * g.val + q.val) % 64 = q.val % 64; omega)

theorem gate_col (g : Fin 8) (q : Fin 128) (h) : (⟨3072 + (g.val * 128 + q.val), h⟩ : Fin 7168) = pcol 0 g q :=
  Fin.ext (by show 3072 + (g.val * 128 + q.val) = 3072 + 1024 * 0 + 128 * g.val + q.val; omega)

theorem row_div (c : Fin 16) (l : Fin 128) (h) : (⟨(row c.val l).val / 128, h⟩ : Fin 16) = c :=
  Fin.ext (by show (128 * c.val + l.val) % 2048 / 128 = c.val; omega)

theorem row_mod (c : Fin 16) (l : Fin 128) (h) : (⟨(row c.val l).val % 128, h⟩ : Fin 128) = l :=
  Fin.ext (by show (128 * c.val + l.val) % 2048 % 128 = l.val; omega)

theorem head_div (g : Fin 8) (k : Fin 2) (h) : (⟨(head g k).val / 2, h⟩ : Fin 8) = g :=
  Fin.ext (by show (2 * g.val + k.val) / 2 = g.val; omega)

theorem head_mod (g : Fin 8) (k : Fin 2) (h) : (⟨(head g k).val % 2, h⟩ : Fin 2) = k :=
  Fin.ext (by show (2 * g.val + k.val) % 2 = k.val; omega)

theorem head_lane (g : Fin 8) (k : Fin 2) (p : Fin 64) (h) :
    (⟨(head g k).val * 64 + p.val, h⟩ : Fin 1024) = ocol g (lane k p) :=
  Fin.ext (by show (2 * g.val + k.val) * 64 + p.val = 128 * g.val + (64 * k.val + p.val); omega)

/-- A row of a chunk with the skip. -/
theorem skip_ref (b c : Fin 16) (l : Fin 128) (g : Fin 8) (h : Fin 2) (p : Fin 64) :
    (val_main_v256 (F := Ideal) x0 x1 x2 x3 x4 x5 x6 (ix4 b (row c.val l) (head g h) p) : EReal)
      = ssdRow (fun l => mixed x0 x2 x3 b g 0 (row c.val l)) (fun l => mixed x0 x2 x3 b g 1 (row c.val l))
          (fun l => mixed x0 x2 x3 b g 2 (row c.val l)) (fun h l => step x1 x4 b g h (row c.val l))
          (fun h l => logDecay x1 x4 x5 b g h (row c.val l)) (fun q => x6 (ix2 0 (head g (hd q))))
          (entering (mixed x0 x2 x3 b g 0) (mixed x0 x2 x3 b g 1) (step x1 x4 b g) (logDecay x1 x4 x5 b g) c.val)
          l (lane h p) := by
  unfold ssdRow
  rw [hd_lane, ← across_ref, ← within_ref, ← both_ref]
  beta_reduce
  rw [hd_lane, ← mixed_x]
  unfold val_main_v256 val_main_v255 val_main_v254 val_main_v253 val_main_v252 val_main_v251 val_main_v250 val_main_v57
  generalize val_main_v249 (F := Ideal) x0 x1 x2 x3 x4 x5 = y
  generalize val_main_v46 (F := Ideal) x0 x2 x3 = z
  pointwise []
  simp only [row_div, row_mod, head_div, head_mod, head_lane]

theorem channel_ref (b : Fin 16) (t : Fin 2048) (g : Fin 8) (q : Fin 128) :
    (val_main_v257 (F := Ideal) x0 x1 x2 x3 x4 x5 x6 (ix3 b t (ocol g q)) : EReal)
      = val_main_v256 (F := Ideal) x0 x1 x2 x3 x4 x5 x6 (ix4 b t (head g (hd q)) ⟨q.val % 64, Nat.mod_lt _ (by norm_num)⟩) := by
  unfold val_main_v257
  generalize val_main_v256 (F := Ideal) x0 x1 x2 x3 x4 x5 x6 = y
  pointwise []
  rw [ocol_head, ocol_pos]

/-- The gate. -/
theorem gate_ref (b : Fin 16) (t : Fin 2048) (g : Fin 8) (q : Fin 128) :
    (val_main_v266 (F := Ideal) x0 x1 x2 x3 x4 x5 x6 (ix4 b t g q) : EReal)
      = val_main_v257 (F := Ideal) x0 x1 x2 x3 x4 x5 x6 (ix3 b t (ocol g q)) * silu (x0 (ix2 (at_ b t) (pcol 0 g q))) := by
  unfold val_main_v266 val_main_v265 silu
  generalize val_main_v257 (F := Ideal) x0 x1 x2 x3 x4 x5 x6 = y
  pointwise [val_main_v264, val_main_v263, val_main_v262, val_main_v261, val_main_v260, val_main_v259, val_main_v258, val_main_cst_4, val_main_cst_5, val_main_v4, val_main_v1, val_main_v0]
  simp only [ocol_swap, at_swap, gate_col]
  rfl

/-- The grouped norm and its weight. -/
theorem norm_ref (b : Fin 16) (t : Fin 2048) (g : Fin 8) (q : Fin 128) :
    (val_main_v283 (F := Ideal) x0 x1 x2 x3 x4 x5 x6 x7 (ix2 (at_ b t) (ocol g q)) : EReal)
      = normed (fun q => val_main_v266 (F := Ideal) x0 x1 x2 x3 x4 x5 x6 (ix4 b t g q)) (fun q => x7 (ix2 0 (ocol g q))) q := by
  unfold normed
  unfold val_main_v283 val_main_v282 val_main_v281 val_main_v276 val_main_v275 val_main_v274 val_main_v273 val_main_v272 val_main_v271 val_main_v270 val_main_v269 val_main_v268 val_main_v267
  generalize val_main_v266 (F := Ideal) x0 x1 x2 x3 x4 x5 x6 = y
  pointwise [val_main_cst_6, val_main_cst_7, val_main_cst_8, val_main_v280, val_main_v279, val_main_v278, val_main_v277]
  simp only [at_div, at_mod, ocol_div, ocol_mod]

/-- The reference's result is the recurrence. -/
theorem final_ref (b : Fin 16) (t : Fin 2048) (g : Fin 8) (q : Fin 128) :
    (val_main_v283 (F := Ideal) x0 x1 x2 x3 x4 x5 x6 x7 (ix2 (at_ b t) (ocol g q)) : EReal)
      = final x0 x1 x2 x3 x4 x5 x6 x7 b g t q := by
  rw [norm_ref]
  unfold final result
  refine congrArg (fun f => normed f _ q) (funext fun q' => ?_)
  rw [gate_ref, channel_ref]
  unfold gated
  rw [row_split]
  refine congrArg (· * _) ?_
  have e := skip_ref x0 x1 x2 x3 x4 x5 x6 b ⟨t.val / 128, by omega⟩ ⟨t.val % 128, Nat.mod_lt _ (by norm_num)⟩ g (hd q')
    ⟨q'.val % 64, Nat.mod_lt _ (by norm_num)⟩
  rw [row_split, lane_split] at e
  exact e

end Cert.SsdRefIdeal.Rd
-- ==== Proof.SsdClaim.lean ====
/-
  The recurrence kernel and the reference, both at the recurrence of `SsdFinal`: equal results.
-/
module

public import proofs.«01_k».proof.Defs
public import proofs.«01_k».proof.Proof.SsdArray
public import proofs.«01_k».proof.Proof.SsdRefLast

set_option maxRecDepth 16384

@[expose] public section

noncomputable section

namespace Cert.SsdClaim

open Idealize.ShloMosaic Idealize.ShloMosaic.TcCoe Idealize.SL.Sem Cert.SsdSpec

/-- Every index of the result is a row of a batch row and a channel of a group. -/
theorem index_split (i : (⟨2, ![32768, 1024]⟩ : Shape).Idx) :
    ∃ (b : Fin 16) (t : Fin 2048) (g : Fin 8) (q : Fin 128), i = ix2 (at_ b t) (ocol g q) := by
  obtain ⟨r, k, rfl⟩ : ∃ (r : Fin 32768) (k : Fin 1024), i = ix2 r k := ⟨i 0, i 1, eq_ix2 i⟩
  refine ⟨⟨r.val / 2048, by omega⟩, ⟨r.val % 2048, by omega⟩, ⟨k.val / 128, by omega⟩, ⟨k.val % 128, by omega⟩, ?_⟩
  exact congrArg₂ ix2 (Fin.ext (by show r.val = 2048 * (r.val / 2048) + r.val % 2048; omega))
    (Fin.ext (by show k.val = 128 * (k.val / 128) + k.val % 128; omega))

/-- The kernel's result array is the reference's result, at equal arguments. -/
theorem arrays_eq (m : (ℓ : Loc Cert.SsdIdeal.nD Cert.SsdIdeal.τ Cert.SsdIdeal.sig) → Buf (Elt Ideal) ℓ) (c : Dev Cert.SsdIdeal.nD) :
    (Cert.SsdRefIdeal.Read.val_main_v283 (F := Ideal)
      (m ((c.tc : Thread Cert.SsdIdeal.nD Cert.SsdIdeal.τ).loc Cert.SsdIdeal.main_arg0))
      (m ((c.tc : Thread Cert.SsdIdeal.nD Cert.SsdIdeal.τ).loc Cert.SsdIdeal.main_arg1))
      (m ((c.tc : Thread Cert.SsdIdeal.nD Cert.SsdIdeal.τ).loc Cert.SsdIdeal.main_arg2))
      (m ((c.tc : Thread Cert.SsdIdeal.nD Cert.SsdIdeal.τ).loc Cert.SsdIdeal.main_arg3))
      (m ((c.tc : Thread Cert.SsdIdeal.nD Cert.SsdIdeal.τ).loc Cert.SsdIdeal.main_arg4))
      (m ((c.tc : Thread Cert.SsdIdeal.nD Cert.SsdIdeal.τ).loc Cert.SsdIdeal.main_arg5))
      (m ((c.tc : Thread Cert.SsdIdeal.nD Cert.SsdIdeal.τ).loc Cert.SsdIdeal.main_arg6))
      (m ((c.tc : Thread Cert.SsdIdeal.nD Cert.SsdIdeal.τ).loc Cert.SsdIdeal.main_arg7)) : (⟨2, ![32768, 1024]⟩ : Shape).Idx → EReal)
      = (Cert.SsdIdeal.Gen.dats m 0 c).arrAt 15 Cert.SsdIdeal.cfg0.N := by
  funext i
  obtain ⟨b, t, g, q, rfl⟩ := index_split i
  exact (Cert.SsdRefIdeal.Rd.final_ref _ _ _ _ _ _ _ _ b t g q).trans (Cert.SsdIdeal.Val.array_eq m c b g t q).symm

theorem algebraic : Cert.algebraic_SsdIdeal_SsdRefIdeal (hSsdIdeal := Cert.SsdIdeal.Gen.facts) (hSsdRefIdeal := Cert.SsdRefIdeal.Gen.facts) := by
  intro m g m' g' _ hag
  refine ⟨fun c => (Cert.SsdIdeal.Gen.dats m 0 c).arrAt 15 Cert.SsdIdeal.cfg0.N, Cert.SsdIdeal.Value.run_blocks m g, ?_⟩
  refine (θ_run Cert.SsdRefIdeal.defs _ _).mono (fun r h c => ⟨(h c).1.trans ?_, (h c).2⟩) (Cert.SsdRefIdeal.Value.run m' g')
  obtain ⟨h0, h1, h2, h3, h4, h5, h6, h7⟩ := hag c
  have e : Cert.SsdRefIdeal.Read.val_main_v283 (F := Ideal)
      (m' ((c.tc : Thread Cert.SsdRefIdeal.nD Cert.SsdRefIdeal.τ).loc Cert.SsdRefIdeal.main_arg0))
      (m' ((c.tc : Thread Cert.SsdRefIdeal.nD Cert.SsdRefIdeal.τ).loc Cert.SsdRefIdeal.main_arg1))
      (m' ((c.tc : Thread Cert.SsdRefIdeal.nD Cert.SsdRefIdeal.τ).loc Cert.SsdRefIdeal.main_arg2))
      (m' ((c.tc : Thread Cert.SsdRefIdeal.nD Cert.SsdRefIdeal.τ).loc Cert.SsdRefIdeal.main_arg3))
      (m' ((c.tc : Thread Cert.SsdRefIdeal.nD Cert.SsdRefIdeal.τ).loc Cert.SsdRefIdeal.main_arg4))
      (m' ((c.tc : Thread Cert.SsdRefIdeal.nD Cert.SsdRefIdeal.τ).loc Cert.SsdRefIdeal.main_arg5))
      (m' ((c.tc : Thread Cert.SsdRefIdeal.nD Cert.SsdRefIdeal.τ).loc Cert.SsdRefIdeal.main_arg6))
      (m' ((c.tc : Thread Cert.SsdRefIdeal.nD Cert.SsdRefIdeal.τ).loc Cert.SsdRefIdeal.main_arg7))
    = Cert.SsdRefIdeal.Read.val_main_v283 (F := Ideal)
      (m ((c.tc : Thread Cert.SsdIdeal.nD Cert.SsdIdeal.τ).loc Cert.SsdIdeal.main_arg0))
      (m ((c.tc : Thread Cert.SsdIdeal.nD Cert.SsdIdeal.τ).loc Cert.SsdIdeal.main_arg1))
      (m ((c.tc : Thread Cert.SsdIdeal.nD Cert.SsdIdeal.τ).loc Cert.SsdIdeal.main_arg2))
      (m ((c.tc : Thread Cert.SsdIdeal.nD Cert.SsdIdeal.τ).loc Cert.SsdIdeal.main_arg3))
      (m ((c.tc : Thread Cert.SsdIdeal.nD Cert.SsdIdeal.τ).loc Cert.SsdIdeal.main_arg4))
      (m ((c.tc : Thread Cert.SsdIdeal.nD Cert.SsdIdeal.τ).loc Cert.SsdIdeal.main_arg5))
      (m ((c.tc : Thread Cert.SsdIdeal.nD Cert.SsdIdeal.τ).loc Cert.SsdIdeal.main_arg6))
      (m ((c.tc : Thread Cert.SsdIdeal.nD Cert.SsdIdeal.τ).loc Cert.SsdIdeal.main_arg7)) := by
    rw [h0, h1, h2, h3, h4, h5, h6, h7]
  exact (Cert.SsdRefIdeal.Read.val_main_v283_eq (F := Ideal) (StableHlo.launchContents m' c)).trans (e.trans (arrays_eq m c))

end Cert.SsdClaim

end
-- ==== Proof.InProjSpec.lean ====
/-
  The input projection's mathematics: one row of the normalized and modulated activation.
-/
module

public import Idealize.ShloMosaic.Lib.Pointwise
public import Idealize.ShloMosaic.PureOps.Ideal

@[expose] public section

noncomputable section

namespace Cert.InProjSpec

open Idealize.ShloMosaic

/-- One entry of a row of the activation: the row over its root mean square, times the norm's weight, times one plus the
    scale, plus the shift. -/
def act (X NW SH SC : Fin 2048 → EReal) (k : Fin 2048) : EReal :=
  X k * Ideal.rsqrt (Ideal.div (∑ j : Fin 2048, X j * X j) (Ideal.ofBits .f32 0x45000000#32) + Ideal.ofBits .f32 0x358637BD#32) * NW k
    * (1 + SC k) + SH k

/-- A row of the activation depends on its operands' values only. -/
theorem act_congr {X X' NW NW' SH SH' SC SC' : Fin 2048 → EReal} (hX : ∀ k, X k = X' k) (hN : ∀ k, NW k = NW' k)
    (hH : ∀ k, SH k = SH' k) (hC : ∀ k, SC k = SC' k) (k : Fin 2048) : act X NW SH SC k = act X' NW' SH' SC' k := by
  obtain rfl : X = X' := funext hX
  obtain rfl : NW = NW' := funext hN
  obtain rfl : SH = SH' := funext hH
  obtain rfl : SC = SC' := funext hC
  rfl

/-- The integer zero, as a real. -/
theorem sitofp_zero : (FloatOps.sitofp (F := Ideal) .f32 (0#32 : BitVec 32) : EReal) = 0 := by
  show (((0#32 : BitVec 32).toInt : ℝ) : EReal) = 0
  simp

/-- Row `s` of batch row `b`, in the array with the batch rows one below the other. -/
def row (b : Fin 16) (s : Fin 2048) : Fin 32768 := ⟨2048 * b.val + s.val, by omega⟩

/-- The activation at a row and a channel: the weights are one row, shift and scale rows 0 and 1 of the batch row's
    modulation. -/
def hidden (x : (⟨3, ![16, 2048, 2048]⟩ : Shape).Idx → EReal) (md : (⟨3, ![16, 6, 2048]⟩ : Shape).Idx → EReal)
    (nw : (⟨2, ![1, 2048]⟩ : Shape).Idx → EReal) (b : Fin 16) (s k : Fin 2048) : EReal :=
  act (fun j => x (ix3 b s j)) (fun j => nw (ix2 0 j)) (fun j => md (ix3 b 0 j)) (fun j => md (ix3 b 1 j)) k

/-- The projection at a row and one of its 7184 columns. -/
def proj (x : (⟨3, ![16, 2048, 2048]⟩ : Shape).Idx → EReal) (md : (⟨3, ![16, 6, 2048]⟩ : Shape).Idx → EReal)
    (nw : (⟨2, ![1, 2048]⟩ : Shape).Idx → EReal) (p : (⟨3, ![1, 2048, 7184]⟩ : Shape).Idx → EReal)
    (b : Fin 16) (s : Fin 2048) (n : Fin 7184) : EReal :=
  ∑ k : Fin 2048, hidden x md nw b s k * p (ix3 0 k n)

/-- The first 7168 columns. -/
def mainCol (n : Fin 7168) : Fin 7184 := ⟨n.val, by omega⟩

/-- The last 16 columns. -/
def stepCol (n : Fin 128) (h : n.val < 16) : Fin 7184 := ⟨7168 + n.val, by omega⟩

/-- The last 16 columns, padded by zeros to 128. -/
def steps (x : (⟨3, ![16, 2048, 2048]⟩ : Shape).Idx → EReal) (md : (⟨3, ![16, 6, 2048]⟩ : Shape).Idx → EReal)
    (nw : (⟨2, ![1, 2048]⟩ : Shape).Idx → EReal) (p : (⟨3, ![1, 2048, 7184]⟩ : Shape).Idx → EReal)
    (b : Fin 16) (s : Fin 2048) (n : Fin 128) : EReal :=
  if h : n.val < 16 then proj x md nw p b s (stepCol n h) else 0

end Cert.InProjSpec

end
-- ==== Proof.InProjRun.lean ====
/-
  One grid point of the input projection's kernel: the modulated activation it keeps in its scratch buffer, the block of
  the projection and the block of the dt columns it leaves.
-/
module

public import Idealize.ShloMosaic.Lib.Pointwise
public import Idealize.ShloMosaic.Lib.WritesUnit
public import Idealize.ShloMosaic.Lib.VecWindow
public import proofs.«01_k».proof.Proof.Gen.InProjIdeal.Frame
public import proofs.«01_k».proof.Proof.Gen.InProjIdeal.Skeleton

set_option maxRecDepth 16384

@[expose] public section

noncomputable section

namespace Cert.InProjIdeal.Val

open Idealize.ShloMosaic Idealize.ShloMosaic.TcCoe Idealize.ShloMosaic.Tactic Cert.InProjIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

/-- The modulated activation of one row block, from the block, the six modulation rows and the norm's weight. -/
def hid (x0 : Vec F S1024x2048 .f32) (x1 : Vec F S1x6x2048 .f32) (x2 : Vec F S1x2048 .f32) : Vec F S1024x2048 .bf16 :=
  k0_pay2 x0 x2 (View.ld x1 (Rect.unit (s := S1x6x2048) ![0, 0, 0] S1x1x2048.size inb_S1x6x2048_S1x1x2048_0_0_0))
    (View.ld x1 (Rect.unit (s := S1x6x2048) ![0, 1, 0] S1x1x2048.size inb_S1x6x2048_S1x1x2048_0_1_0))

/-- A load of a whole buffer reads its contents. -/
theorem load_whole {s : Shape} {e : EltTy} (a : Memref sig .tc .vmem s e) (h : a.IsWhole) (x : Vec F s e) {off : Fin s.rank → ℕ} (inb) :
    a.view.readAt (Elt F) (Rect.unit off s.size inb).toLoadRect (h.unread x) = x :=
  (View.readAt_full a.view _ inb).trans (h.read_unread x)

/-- The activation from the loads that the body makes of its three operands. -/
theorem hid_loads (arg2 : Memref sig .tc .vmem S1024x2048 .f32) (harg2 : arg2.IsWhole) (arg3 : Memref sig .tc .vmem S1x6x2048 .f32) (harg3 : arg3.IsWhole)
    (arg4 : Memref sig .tc .vmem S1x2048 .f32) (harg4 : arg4.IsWhole)
    (x0 : Vec F S1024x2048 .f32) (x1 : Vec F S1x6x2048 .f32) (x2 : Vec F S1x2048 .f32) :
    k0_pay2 (arg2.view.readAt (Elt F) (Rect.unit (s := S1024x2048) ![0, 0] S1024x2048.size inb_S1024x2048_S1024x2048_0_0).toLoadRect (harg2.unread x0))
      (arg4.view.readAt (Elt F) (Rect.unit (s := S1x2048) ![0, 0] S1x2048.size inb_S1x2048_S1x2048_0_0).toLoadRect (harg4.unread x2))
      (arg3.view.readAt (Elt F) (Rect.unit (s := S1x6x2048) ![0, 0, 0] S1x1x2048.size inb_S1x6x2048_S1x1x2048_0_0_0).toLoadRect (harg3.unread x1))
      (arg3.view.readAt (Elt F) (Rect.unit (s := S1x6x2048) ![0, 1, 0] S1x1x2048.size inb_S1x6x2048_S1x1x2048_0_1_0).toLoadRect (harg3.unread x1))
      = hid x0 x1 x2 :=
  congr (congr (congr (congrArg k0_pay2 (load_whole arg2 harg2 x0 _)) (load_whole arg4 harg4 x2 _))
    (congrArg (fun x => View.ld x (Rect.unit (s := S1x6x2048) ![0, 0, 0] S1x1x2048.size inb_S1x6x2048_S1x1x2048_0_0_0)) (harg3.read_unread x1)))
    (congrArg (fun x => View.ld x (Rect.unit (s := S1x6x2048) ![0, 1, 0] S1x1x2048.size inb_S1x6x2048_S1x1x2048_0_1_0)) (harg3.read_unread x1))

/-- The printed condition of the body's branch. -/
theorem cond_iff : ∀ t : Fin cfg0.N, k0_cond1 (grid0.coords t) = 1#1 ↔ t.val % 7 = 0 :=
  (fun t => by
    have ht : t.val < 224 := Nat.lt_of_lt_of_eq t.isLt N_0
    have e0 : (grid0.coords t 0).val = t.val / 7 % 32 := Pipeline.Grid.coords_val t 0 (by decide) rfl
    have e1 : (grid0.coords t 1).val = t.val / 1 % 7 := Pipeline.Grid.coords_val t 1 (by decide) rfl
    simp only [k0_cond1, e0, e1]
    word_cmp
   : ∀ t : Fin grid0.N, k0_cond1 (grid0.coords t) = 1#1 ↔ t.val % 7 = 0)

section
variable (c : Dev nD) (i : grid0.Coords) (arg2 : Memref sig .tc .vmem S1024x2048 .f32) (harg2 : arg2.IsWhole)
  (arg3 : Memref sig .tc .vmem S1x6x2048 .f32) (harg3 : arg3.IsWhole) (arg4 : Memref sig .tc .vmem S1x2048 .f32) (harg4 : arg4.IsWhole)
  (arg5 : Memref sig .tc .vmem S2048x1024 .bf16) (harg5 : arg5.IsWhole) (arg6 : Memref sig .tc .vmem S2048x128 .bf16) (harg6 : arg6.IsWhole)
  (arg7 : Memref sig .tc .vmem S1024x1024 .bf16) (harg7 : arg7.IsWhole) (arg8 : Memref sig .tc .vmem S1024x128 .f32) (harg8 : arg8.IsWhole)
  (arg9 : Memref sig .tc .vmem S1024x2048 .bf16) (harg9 : arg9.IsWhole)
  (x0 : Vec F S1024x2048 .f32) (x1 : Vec F S1x6x2048 .f32) (x2 : Vec F S1x2048 .f32) (x3 : Vec F S2048x1024 .bf16) (x4 : Vec F S2048x128 .bf16)
  (x6 : Vec F S1024x128 .f32) (h : Vec F S1024x2048 .bf16)

/-- The five input buffers at their contents. -/
def inputs : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4)

set_option maxHeartbeats 1000000 in
/-- The body at the first column block of a row block: it computes the activation, the dt columns and the projection's block. -/
theorem run_first (hc : k0_cond1 i = 1#1) (E : Set ℕ) (K : PUnit → sProp 𝕄) :
    iprop(inputs c arg2 arg3 arg4 arg5 arg6 x0 x1 x2 x3 x4
        ∗ (∃ d, owns (c : Thread nD τ) arg7 fullShare d) ∗ (∃ d, owns (c : Thread nD τ) arg8 fullShare d) ∗ (∃ d, owns (c : Thread nD τ) arg9 fullShare d)
        ∗ (iprop(inputs c arg2 arg3 arg4 arg5 arg6 x0 x1 x2 x3 x4
            ∗ owns (c : Thread nD τ) arg7 fullShare (k0_pay1 (hid x0 x1 x2) x3) ∗ owns (c : Thread nD τ) arg8 fullShare (k0_pay3 (hid x0 x1 x2) x4)
            ∗ owns (c : Thread nD τ) arg9 fullShare (hid x0 x1 x2)) -∗ K ⟨⟩))
      ⊢ wp frame (wpE (defs₀ (F := F)) Variants.none c none) E
          (cc0_in_proj i arg2 harg2 arg3 harg3 arg4 harg4 arg5 harg5 arg6 harg6 arg7 harg7 arg8 harg8 arg9 harg9) K := by
  simp only [cc0_in_proj_eq_skeleton]; unfold cc0_in_proj_skel
  simp only [k0_part1_eq_skeleton]
  unfold inputs owns
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%d6, %f6, -, H6⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc)
  sl_step
  iapply Hk
  isplitl [H0 H1 H2 H3 H4]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; · ipureintro; exact harg6.read_unread _
    iexact H4
  isplitl [H5]
  · iexists _; isplitr; swap; · iexact H5
    ipureintro
    exact (View.read_writes_full _ _ _ _ _).trans (congrArg₂ k0_pay1
      ((View.readCov_full _ _ _ _ _).trans (hid_loads arg2 harg2 arg3 harg3 arg4 harg4 x0 x1 x2)) (load_whole arg5 harg5 x3 _))
  isplitl [H6]
  · iexists _; isplitr; swap; · iexact H6
    ipureintro
    exact (View.read_writes_full _ _ _ _ _).trans (congrArg₂ k0_pay3
      ((View.readCov_full _ _ _ _ _).trans (hid_loads arg2 harg2 arg3 harg3 arg4 harg4 x0 x1 x2)) (load_whole arg6 harg6 x4 _))
  iexists _; isplitr; swap; · iexact HS0
  ipureintro
  exact (View.read_writes_full _ _ _ _ _).trans (hid_loads arg2 harg2 arg3 harg3 arg4 harg4 x0 x1 x2)

set_option maxHeartbeats 1000000 in
/-- The body at a later column block: it reads the activation it kept and leaves the projection's block, the dt columns untouched. -/
theorem run_later (hc : ¬k0_cond1 i = 1#1) (E : Set ℕ) (K : PUnit → sProp 𝕄) :
    iprop(inputs c arg2 arg3 arg4 arg5 arg6 x0 x1 x2 x3 x4
        ∗ (∃ d, owns (c : Thread nD τ) arg7 fullShare d) ∗ owns (c : Thread nD τ) arg8 fullShare x6 ∗ owns (c : Thread nD τ) arg9 fullShare h
        ∗ (iprop(inputs c arg2 arg3 arg4 arg5 arg6 x0 x1 x2 x3 x4
            ∗ owns (c : Thread nD τ) arg7 fullShare (k0_pay1 h x3) ∗ owns (c : Thread nD τ) arg8 fullShare x6
            ∗ owns (c : Thread nD τ) arg9 fullShare h) -∗ K ⟨⟩))
      ⊢ wp frame (wpE (defs₀ (F := F)) Variants.none c none) E
          (cc0_in_proj i arg2 harg2 arg3 harg3 arg4 harg4 arg5 harg5 arg6 harg6 arg7 harg7 arg8 harg8 arg9 harg9) K := by
  simp only [cc0_in_proj_eq_skeleton]; unfold cc0_in_proj_skel
  unfold inputs owns
  iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%f6, %hf6, H6⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4
  obtain rfl := harg9.eq_unread hfs0
  sl_exec (disch := first | sl_exact hc)
  sl_step
  iapply Hk
  isplitl [H0 H1 H2 H3 H4]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; · ipureintro; exact harg6.read_unread _
    iexact H4
  isplitl [H5]
  · iexists _; isplitr; swap; · iexact H5
    ipureintro
    exact (View.read_writes_full _ _ _ _ _).trans (congrArg₂ k0_pay1 (load_whole arg9 harg9 h _) (load_whole arg5 harg5 x3 _))
  isplitl [H6]
  · iexists _; isplitr; swap; · iexact H6
    ipureintro; exact hf6
  iexists _; isplitr; swap; · iexact HS0
  ipureintro; exact harg9.read_unread _

end

end Cert.InProjIdeal.Val

end
-- ==== Proof.InProjValue.lean ====
/-
  What one grid point of the input projection's kernel computes, entry by entry.
-/
module

public import Idealize.ShloMosaic.Lib.Pointwise
public import Idealize.ShloMosaic.Lib.VecWindow
public import proofs.«01_k».proof.Proof.InProjSpec
public import proofs.«01_k».proof.Proof.InProjRun

set_option maxRecDepth 16384

@[expose] public section

noncomputable section

namespace Cert.InProjIdeal.Val

open Idealize.ShloMosaic Cert.InProjIdeal.Gen Idealize.ShloMosaic.Tactic
open Cert.InProjSpec

section
variable (x : FVec Ideal S1024x2048 .f32) (nw : FVec Ideal S1x2048 .f32) (sh sc : FVec Ideal S1x1x2048 .f32)

theorem pay2_apply (r : Fin 1024) (k : Fin 2048) : (k0_pay2 (F := Ideal) x nw sh sc (ix2 r k) : EReal)
    = act (fun j => x (ix2 r j)) (fun j => nw (ix2 0 j)) (fun j => sh (ix3 0 0 j)) (fun j => sc (ix3 0 0 j)) k := by
  pointwise [k0_pay2]
  unfold act
  rfl

theorem pay1_apply (h : FVec Ideal S1024x2048 .bf16) (w : FVec Ideal S2048x1024 .bf16) (r n : Fin 1024) :
    (k0_pay1 (F := Ideal) h w (ix2 r n) : EReal) = ∑ k : Fin 2048, (h (ix2 r k) * w (ix2 k n) : EReal) := by
  pointwise [k0_pay1]

theorem pay3_apply (h : FVec Ideal S1024x2048 .bf16) (w : FVec Ideal S2048x128 .bf16) (r : Fin 1024) (n : Fin 128) :
    (k0_pay3 (F := Ideal) h w (ix2 r n) : EReal) = ∑ k : Fin 2048, (h (ix2 r k) * w (ix2 k n) : EReal) := by
  pointwise [k0_pay3]

/-- The activation of a row block. -/
theorem hid_apply (x0 : Vec Ideal S1024x2048 .f32) (x1 : Vec Ideal S1x6x2048 .f32) (x2 : Vec Ideal S1x2048 .f32) (r : Fin 1024) (k : Fin 2048) :
    (hid (F := Ideal) x0 x1 x2 (ix2 r k) : EReal)
      = act (fun j => x0 (ix2 r j)) (fun j => x2 (ix2 0 j)) (fun j => x1 (ix3 0 0 j)) (fun j => x1 (ix3 0 1 j)) k := by
  unfold hid
  refine (pay2_apply _ _ _ _ r k).trans (act_congr (fun _ => rfl) (fun _ => rfl) (fun j => ?_) (fun j => ?_) k)
  · refine congrArg x1 (funext fun a => Fin.ext ?_)
    match a with
    | ⟨0, _⟩ => rfl
    | ⟨1, _⟩ => rfl
    | ⟨2, _⟩ => show 0 + 1 * j.val = j.val; omega
  · refine congrArg x1 (funext fun a => Fin.ext ?_)
    match a with
    | ⟨0, _⟩ => rfl
    | ⟨1, _⟩ => rfl
    | ⟨2, _⟩ => show 0 + 1 * j.val = j.val; omega

end

end Cert.InProjIdeal.Val

end
-- ==== Proof.InProjLaunch.lean ====
/-
  The launch of the input projection's kernel: at every grid point the scratch buffer holds the row block's activation,
  and each output block is the activation times its column block of the weights.
-/
module

public import Idealize.ShloMosaic.Lib.Pointwise
public import Idealize.ShloMosaic.Lib.Claim
public import proofs.«01_k».proof.Proof.InProjRun

set_option maxRecDepth 16384

@[expose] public section

noncomputable section

namespace Cert.InProjIdeal.Val

open Idealize.ShloMosaic Idealize.ShloMosaic.TcCoe Idealize.ShloMosaic.Tactic Cert.InProjIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch buffer that keeps the activation. -/
abbrev keep : Memref sig .tc .vmem S1024x2048 .bf16 := Memref.whole cc0_scratch0

/-- The activation of the row block of point `t`. -/
def hidAt (c : Dev nD) (t : Fin cfg0.N) : Vec F S1024x2048 .bf16 := hid (iblk m c 0 t) (iblk m c 1 t) (iblk m c 2 t)

theorem pred_lt (t : Fin (cfg0.N + 1)) : t.val - 1 < cfg0.N := by
  have h := t.isLt
  have e : cfg0.N = 224 := N_0
  omega

/-- What is held between two points: within a row block the scratch holds its activation. -/
def carried (c : Dev nD) (t : Fin (cfg0.N + 1)) : sProp 𝕄 :=
  if t.val % 7 = 0 then Pipeline.ΦA spec0 c
  else iprop(owns (c : Thread nD τ) keep fullShare (hidAt m c ⟨t.val - 1, pred_lt t⟩) ∗ ∃ r, prngReg c r)

/-- The proof data: the inputs' buffers keep their blocks, the outputs' hold the activation times the weights' block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay1 (hidAt m c t) (iblk m c 3 t)
    | ⟨6, _⟩ => k0_pay3 (hidAt m c t) (iblk m c 4 t)
  Φ t := carried m c t
  q _ := fullShare
  owed _ := 0

theorem A_eq (c : Dev nD) (w : Fin cfg0.W) : (dats m 0 c).A w = V m c (Pipeline.arrRef spec0 w) := by dsimp only [dats]
theorem Φ_eq (c : Dev nD) (t) : (dats m 0 c).Φ t = carried m c t := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = k0_pay1 (hidAt m c t) (iblk m c 3 t) := by dsimp only [dats]
theorem after_6 (c : Dev nD) (t : Fin cfg0.N) : (dats m 0 c).after 6 t = k0_pay3 (hidAt m c t) (iblk m c 4 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! ## Within a row block the operands' blocks do not move -/

/-- The point before. -/
abbrev prev (t : Fin cfg0.N) : Fin cfg0.N := ⟨t.val - 1, Nat.lt_of_le_of_lt (Nat.sub_le _ _) t.isLt⟩

/-- An uncut input window that is not fetched at a point holds what it held at the point before. -/
theorem unmoved (c : Dev nD) (w : Fin cfg0.W) (hw : (cfg0.win w).isOut = false) (hlive : ∀ i, cfg0.idle w i = false)
    (hclip : ∀ (i : cfg0.grid.Coords) a, (cfg0.win w).clip i a = none)
    (t : Fin cfg0.N) (hf : (cfg0.win w).fetch t = false) (d) :
    (dats m 0 c).before w t d = (dats m 0 c).after w (prev t) := by
  rw [(dats m 0 c).before_unfetched_in w hw t hf hlive d]
  unfold Dat.kept
  rw [Pipeline.fill_of_clip_none w _ (hclip _) d ((dats m 0 c).after w _), Window.fill_cut]

theorem not_fetched {b : Bool} {p : Prop} (h : b = true ↔ p) (hn : ¬p) : b = false := by
  cases b
  · rfl
  · exact absurd (h.mp rfl) hn

theorem iblk0_prev (c : Dev nD) (t : Fin cfg0.N) (h : t.val % 7 ≠ 0) : iblk m c 0 t = iblk m c 0 (prev t) :=
  (before_0 m c t (iblk m c 0 t)).symm.trans ((unmoved m c 0 rfl (fun _ => rfl) (fun _ _ => rfl) t (not_fetched (fetch0_0 t) h) _).trans (after_0 m c _))
theorem iblk1_prev (c : Dev nD) (t : Fin cfg0.N) (h : t.val % 7 ≠ 0) : iblk m c 1 t = iblk m c 1 (prev t) :=
  (before_1 m c t (iblk m c 1 t)).symm.trans ((unmoved m c 1 rfl (fun _ => rfl) (fun _ _ => rfl) t (not_fetched (fetch0_1 t) (by omega)) _).trans (after_1 m c _))
theorem iblk2_prev (c : Dev nD) (t : Fin cfg0.N) (h : t.val % 7 ≠ 0) : iblk m c 2 t = iblk m c 2 (prev t) :=
  (before_2 m c t (iblk m c 2 t)).symm.trans ((unmoved m c 2 rfl (fun _ => rfl) (fun _ _ => rfl) t (not_fetched (fetch0_2 t) (by omega)) _).trans (after_2 m c _))
theorem iblk4_prev (c : Dev nD) (t : Fin cfg0.N) (h : t.val % 7 ≠ 0) : iblk m c 4 t = iblk m c 4 (prev t) :=
  (before_4 m c t (iblk m c 4 t)).symm.trans ((unmoved m c 4 rfl (fun _ => rfl) (fun _ _ => rfl) t (not_fetched (fetch0_4 t) (by omega)) _).trans (after_4 m c _))

theorem hidAt_prev (c : Dev nD) (t : Fin cfg0.N) (h : t.val % 7 ≠ 0) : hidAt m c t = hidAt m c (prev t) := by
  unfold hidAt
  rw [iblk0_prev m c t h, iblk1_prev m c t h, iblk2_prev m c t h]

/-- The dt columns' window is idle off the first column block. -/
theorem idle_6 (t : Fin cfg0.N) (h : t.val % 7 ≠ 0) : cfg0.idle 6 (grid0.coords t) = true := by
  show (!(k0_cond1 (grid0.coords t) == 1#1)) = true
  rw [Bool.not_eq_true', beq_eq_false_iff_ne]
  exact fun e => h ((cond_iff t).mp e)
theorem live_6 (t : Fin cfg0.N) (h : t.val % 7 = 0) : cfg0.idle 6 (grid0.coords t) = false := by
  show (!(k0_cond1 (grid0.coords t) == 1#1)) = false
  rw [Bool.not_eq_false', beq_iff_eq]
  exact (cond_iff t).mpr h

/-- Off the first column block the dt columns' buffer holds the row block's dt columns. -/
theorem before_6 (c : Dev nD) (d) : ∀ (n : ℕ) (hn : n < cfg0.N), n % 7 ≠ 0 →
    (dats m 0 c).before 6 ⟨n, hn⟩ d = k0_pay3 (hidAt m c ⟨n, hn⟩) (iblk m c 4 ⟨n, hn⟩) := by
  intro n
  induction n with
  | zero => intro _ h; exact absurd rfl h
  | succ k ih =>
    intro hn h
    have hk : k < cfg0.N := by omega
    have hfl : (cfg0.win 6).flush ⟨k, hk⟩ = false := not_fetched (flush0_6 ⟨k, hk⟩) (by show ¬ k % 7 = 6; omega)
    have hstep : k0_pay3 (hidAt m c ⟨k + 1, hn⟩) (iblk m c 4 ⟨k + 1, hn⟩) = k0_pay3 (hidAt m c ⟨k, hk⟩) (iblk m c 4 ⟨k, hk⟩) :=
      congrArg₂ k0_pay3 (hidAt_prev m c ⟨k + 1, hn⟩ h) (iblk4_prev m c ⟨k + 1, hn⟩ h)
    rw [hstep]
    refine ((dats m 0 c).before_of_pos 6 ⟨k + 1, hn⟩ (Nat.succ_ne_zero k) ((cfg0.win 6).fetch_out rfl _) d).trans ?_
    refine (if_neg (by rw [show (cfg0.win 6).flush ⟨(⟨k + 1, hn⟩ : Fin cfg0.N).val - 1, _⟩ = (cfg0.win 6).flush ⟨k, hk⟩ from rfl, hfl]; exact Bool.false_ne_true)).trans ?_
    show (dats m 0 c).left 6 ⟨k, hk⟩ d = _
    by_cases h0 : k % 7 = 0
    · unfold Dat.left
      rw [show cfg0.idle 6 (cfg0.grid.coords ⟨k, hk⟩) = false from live_6 ⟨k, hk⟩ h0]
      show (dats m 0 c).kept 6 ⟨k, hk⟩ d = _
      unfold Dat.kept
      rw [Pipeline.fill_of_clip_none (cfg := cfg0) 6 _ (fun _ => rfl) d ((dats m 0 c).after 6 _), Window.fill_cut]
      exact after_6 m c _
    · unfold Dat.left
      rw [show cfg0.idle 6 (cfg0.grid.coords ⟨k, hk⟩) = true from idle_6 ⟨k, hk⟩ h0]
      exact ih hk h0

/-! ## The body obligation -/

theorem ΦA_eq (c : Dev nD) :
    (Pipeline.ΦA spec0 c : sProp 𝕄) = iprop(iprop((∃ d, owns (c : Thread nD τ) keep fullShare d)) ∗ (∃ r, prngReg c r)) := by
  unfold Pipeline.ΦA; rw [scopedRest0_eq]; simp only [keep, owns_whole]; try rfl

theorem carried_first (c : Dev nD) (t : Fin (cfg0.N + 1)) (h : t.val % 7 = 0) : carried m c t = Pipeline.ΦA spec0 c := if_pos h
theorem carried_after (c : Dev nD) (t : Fin cfg0.N) (h : (t.val + 1) % 7 ≠ 0) :
    carried m c t.succ = iprop(owns (c : Thread nD τ) keep fullShare (hidAt m c t) ∗ ∃ r, prngReg c r) := if_neg h
theorem carried_before (c : Dev nD) (t : Fin cfg0.N) (h : t.val % 7 ≠ 0) :
    carried m c t.castSucc = iprop(owns (c : Thread nD τ) keep fullShare (hidAt m c t) ∗ ∃ r, prngReg c r) := by
  rw [hidAt_prev m c t h]; exact if_neg h

/-- Holding the row block's activation is enough for what the next point is handed. -/
theorem to_carried (c : Dev nD) (t : Fin cfg0.N) :
    iprop(owns (c : Thread nD τ) keep fullShare (hidAt m c t) ∗ ∃ r, prngReg c r) ⊢ (carried m c t.succ : sProp 𝕄) := by
  by_cases h : (t.val + 1) % 7 = 0
  · rw [carried_first m c t.succ h, ΦA_eq]
    iintro ⟨H, Hg⟩
    isplitl [H]; · iexists _; iexact H
    iexact Hg
  · rw [carried_after m c t h]

abbrev ms0 (t : Fin cfg0.N) : Memref sig .tc .vmem S1024x2048 .f32 := win0_0.stage (cfg0.slots t 0)
abbrev ms1 (t : Fin cfg0.N) : Memref sig .tc .vmem S1x6x2048 .f32 := win0_1.stage (cfg0.slots t 1)
abbrev ms2 (t : Fin cfg0.N) : Memref sig .tc .vmem S1x2048 .f32 := win0_2.stage (cfg0.slots t 2)
abbrev ms3 (t : Fin cfg0.N) : Memref sig .tc .vmem S2048x1024 .bf16 := win0_3.stage (cfg0.slots t 3)
abbrev ms4 (t : Fin cfg0.N) : Memref sig .tc .vmem S2048x128 .bf16 := win0_4.stage (cfg0.slots t 4)
abbrev ms5 (t : Fin cfg0.N) : Memref sig .tc .vmem S1024x1024 .bf16 := win0_5.stage (cfg0.slots t 5)
abbrev ms6 (t : Fin cfg0.N) : Memref sig .tc .vmem S1024x128 .f32 := win0_6.stage (cfg0.slots t 6)

/-- What the body is handed at a point, -/
def pre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it gives back. -/
def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t ∗ (dats m 0 c).leavesExact 6 t)

theorem leaves_0 (c : Dev nD) (t : Fin cfg0.N) : (dats m 0 c).leavesExact 0 t = owns (c : Thread nD τ) (ms0 t) fullShare (iblk m c 0 t) := by
  rw [← after_0]
theorem leaves_1 (c : Dev nD) (t : Fin cfg0.N) : (dats m 0 c).leavesExact 1 t = owns (c : Thread nD τ) (ms1 t) fullShare (iblk m c 1 t) := by
  rw [← after_1]
theorem leaves_2 (c : Dev nD) (t : Fin cfg0.N) : (dats m 0 c).leavesExact 2 t = owns (c : Thread nD τ) (ms2 t) fullShare (iblk m c 2 t) := by
  rw [← after_2]
theorem leaves_3 (c : Dev nD) (t : Fin cfg0.N) : (dats m 0 c).leavesExact 3 t = owns (c : Thread nD τ) (ms3 t) fullShare (iblk m c 3 t) := by
  rw [← after_3]
theorem leaves_4 (c : Dev nD) (t : Fin cfg0.N) : (dats m 0 c).leavesExact 4 t = owns (c : Thread nD τ) (ms4 t) fullShare (iblk m c 4 t) := by
  rw [← after_4]
theorem leaves_5 (c : Dev nD) (t : Fin cfg0.N) : (dats m 0 c).leavesExact 5 t
    = owns (c : Thread nD τ) (ms5 t) fullShare (k0_pay1 (hidAt m c t) (iblk m c 3 t)) := by
  rw [← after_5]
theorem leaves_6_first (c : Dev nD) (t : Fin cfg0.N) (h : t.val % 7 = 0) : (dats m 0 c).leavesExact 6 t
    = owns (c : Thread nD τ) (ms6 t) fullShare (k0_pay3 (hidAt m c t) (iblk m c 4 t)) := by
  rw [← after_6]; unfold Dat.leavesExact
  rw [show cfg0.idle 6 (cfg0.grid.coords t) = false from live_6 t h]

/-- Off the first column block the dt columns' buffer may be given back as it was found. -/
theorem leaves_6_later (c : Dev nD) (t : Fin cfg0.N) (h : t.val % 7 ≠ 0) (d) :
    owns (c : Thread nD τ) (ms6 t) fullShare ((dats m 0 c).before 6 t d) ⊢ ((dats m 0 c).leavesExact 6 t : sProp 𝕄) := by
  by_cases h6 : t.val % 7 = 6
  · rw [before_6 m c d t.val t.isLt h, ← after_6]; unfold Dat.leavesExact
    rw [show cfg0.idle 6 (cfg0.grid.coords t) = true from idle_6 t h, (flush0_6 t).mpr h6]
  · rw [(dats m 0 c).leavesExact_idle 6 t (idle_6 t h) (not_fetched (flush0_6 t) h6)]
    iintro H; iexists d; iexact H

set_option maxHeartbeats 1600000 in
/-- The body at any point. -/
theorem sound_body (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, Φ_eq]
  rw [leaves_0, leaves_1, leaves_2, leaves_3, leaves_4, leaves_5]
  rw [show (dats m 0 c).owesAt () t.succ = (dats m 0 c).owesAt () t.castSucc from rfl]
  by_cases h0 : t.val % 7 = 0
  · rw [leaves_6_first m c t h0, carried_first m c t.castSucc h0, ΦA_eq]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply (run_first c (grid0.coords t) _ _ _ _ _ _ _ _ _ _ _ _ _ _ _ _ (iblk m c 0 t) (iblk m c 1 t) (iblk m c 2 t) (iblk m c 3 t) (iblk m c 4 t) ((cond_iff t).mpr h0) Set.univ _)
    unfold inputs
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [H6]; · iexists _; iexact H6
    isplitl [HS0]; · iexact HS0
    iintro ⟨⟨H0, H1, H2, H3, H4⟩, H5, H6, HS0⟩
    isplitl [HS0 Hg]
    · iapply (to_carried m c t)
      isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [carried_before m c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply (run_later c (grid0.coords t) _ _ _ _ _ _ _ _ _ _ _ _ _ _ _ _ (iblk m c 0 t) (iblk m c 1 t) (iblk m c 2 t) (iblk m c 3 t) (iblk m c 4 t)
      ((dats m 0 c).before 6 t d6) (hidAt m c t) (fun e => h0 ((cond_iff t).mp e)) Set.univ _)
    unfold inputs
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [H6]; · iexact H6
    isplitl [HS0]; · iexact HS0
    iintro ⟨⟨H0, H1, H2, H3, H4⟩, H5, H6, HS0⟩
    isplitl [HS0 Hg]
    · iapply (to_carried m c t)
      isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves_6_later m c t h0 d6)
    iexact H6

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-! ## The run -/

theorem carried_last (c : Dev nD) : (carried m c (Fin.last cfg0.N) : sProp 𝕄) = Pipeline.ΦA spec0 c :=
  carried_first m c _ (by show cfg0.N % 7 = 0; rw [show cfg0.N = 224 from N_0])

set_option backward.isDefEq.respectTransparency.types false in
/-- The launch, and every counter at zero at the end. -/
theorem run_all : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by rw [Φ_eq, carried_first m c 0 rfl])
    (hout := fun c => by rw [Φ_eq]; exact (carried_last m c) ▸ .rfl)

/-- The launch's arrays. -/
theorem run_arrays : θ_run defs (onTc (τ := τ) (main (F := F))) (s₀ m ρ) (Pipeline.FramePost cfgs (dats m) 0 (V m)) :=
  (θ_run defs _ _).mono (fun _ h => h.1) (run_all m ρ)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_arrays m ρ)) ((θ_run defs _ _).mono (fun _ h => h.2) (run_all m ρ))

end Cert.InProjIdeal.Val

end
-- ==== Proof.InProjHost.lean ====
/-
  What the input projection's kernel reads: the host values and the blocks of a grid point, entry by entry.
-/
module

public import Idealize.ShloMosaic.Lib.Pointwise
public import proofs.«01_k».proof.Proof.InProjValue
public import proofs.«01_k».proof.Proof.InProjLaunch

set_option maxRecDepth 16384

@[expose] public section

noncomputable section

namespace Cert.InProjIdeal.Val

open Idealize.ShloMosaic Idealize.ShloMosaic.TcCoe Cert.InProjIdeal.Gen Idealize.ShloMosaic.Tactic Idealize.ShloMosaic.StableHlo
open Cert.InProjSpec

variable (m : (ℓ : Loc nD τ sig) → Buf (Elt Ideal) ℓ)

/-! ## Layout operations at an index -/

theorem rows_of (y : S16x2048x2048.Idx → EReal) (b : Fin 16) (s k : Fin 2048) :
    shapeCast S32768x2048 y shapeCasts_S16x2048x2048_S32768x2048 (ix2 (row b s) k) = y (ix3 b s k) :=
  shapeCast_apply y shapeCasts_S16x2048x2048_S32768x2048 (ix2 (row b s) k) (ix3 b s k)
    (by rewrite [Shape.rowMajor_val_three, Shape.rowMajor_val_two]
        show (b.val * 2048 + s.val) * 2048 + k.val = (2048 * b.val + s.val) * 2048 + k.val
        omega)

theorem weights_of (y : S1x2048x7184.Idx → EReal) (k : Fin 2048) (n : Fin 7184) :
    shapeCast S2048x7184 y shapeCasts_S1x2048x7184_S2048x7184 (ix2 k n) = y (ix3 0 k n) :=
  shapeCast_apply y shapeCasts_S1x2048x7184_S2048x7184 (ix2 k n) (ix3 0 k n)
    (by rewrite [Shape.rowMajor_val_three, Shape.rowMajor_val_two]
        show (0 * 2048 + k.val) * 7184 + n.val = k.val * 7184 + n.val
        omega)

theorem left_of (y : S2048x7184.Idx → EReal) (k : Fin 2048) (n : Fin 7168) :
    extractStridedSlice S2048x7168 ![0, 0] y slices_S2048x7184_S2048x7168_0_0 (ix2 k n) = y (ix2 k (mainCol n)) :=
  extractStridedSlice_apply ![0, 0] y slices_S2048x7184_S2048x7168_0_0 (ix2 k n) (ix2 k (mainCol n)) (fun a => match a with
    | ⟨0, _⟩ => by show k.val = 0 + k.val; omega
    | ⟨1, _⟩ => by show n.val = 0 + n.val; omega)

theorem right_of (y : S2048x7184.Idx → EReal) (k : Fin 2048) (n : Fin 128) (h : n.val < 16) :
    extractStridedSlice S2048x16 ![0, 7168] y slices_S2048x7184_S2048x16_0_7168 (ix2 k ⟨n.val, h⟩) = y (ix2 k (stepCol n h)) :=
  extractStridedSlice_apply ![0, 7168] y slices_S2048x7184_S2048x16_0_7168 (ix2 k ⟨n.val, h⟩) (ix2 k (stepCol n h)) (fun a => match a with
    | ⟨0, _⟩ => by show k.val = 0 + k.val; omega
    | ⟨1, _⟩ => rfl)

theorem padded_of (y : S2048x16.Idx → EReal) (z : S_.Idx → EReal) (k : Fin 2048) (n : Fin 128) :
    pad S2048x128 ![0, 0] ![0, 112] ![0, 0] y z pads_S2048x16_S2048x128_000_01120 h_S_ (ix2 k n)
      = if h : n.val < 16 then y (ix2 k ⟨n.val, h⟩) else z (Shape.Idx.first h_S_) := by
  pointwise

/-! ## The host values -/

theorem rows_at (c : Dev nD) (b : Fin 16) (s k : Fin 2048) :
    (V m c main_v7 : S32768x2048.Idx → EReal) (ix2 (row b s) k) = (m ((c : Thread nD τ).loc main_arg0) : S16x2048x2048.Idx → EReal) (ix3 b s k) := by
  have e : V m c main_v7 = shapeCast S32768x2048 (m ((c : Thread nD τ).loc main_arg0)) shapeCasts_S16x2048x2048_S32768x2048 := by
    show StableHlo.after _ _ (Proc.devRef .tc main_v7) = _
    simp only [List.flatten_cons, List.flatten_nil, List.append_nil, List.cons_append, List.nil_append]
    after_results
    rfl
  rw [e]
  exact rows_of _ b s k

/-- The integer zero, as a float. -/
theorem zero_word : (sitofp (F := Ideal) .f32 (constantI S_ 32 0#32) (Shape.Idx.first h_S_) : EReal) = 0 := by
  pointwise
  exact sitofp_zero

theorem norm_at (c : Dev nD) (k : Fin 2048) :
    (V m c main_v9 : S1x2048.Idx → EReal) (ix2 0 k) = (m ((c : Thread nD τ).loc main_arg2) : S1x2048.Idx → EReal) (ix2 0 k) := by
  have e : V m c main_v9 = shapeCast S1x2048 (shapeCast S2048 (m ((c : Thread nD τ).loc main_arg2)) shapeCasts_S1x2048_S2048) shapeCasts_S2048_S1x2048 := by
    show StableHlo.after _ _ (Proc.devRef .tc main_v9) = _
    simp only [List.flatten_cons, List.flatten_nil, List.append_nil, List.cons_append, List.nil_append]
    after_results
    rfl
  rw [e]
  pointwise

theorem main_at (c : Dev nD) (k : Fin 2048) (n : Fin 7168) :
    (V m c main_v2 : S2048x7168.Idx → EReal) (ix2 k n) = (m ((c : Thread nD τ).loc main_arg3) : S1x2048x7184.Idx → EReal) (ix3 0 k (mainCol n)) := by
  have e : V m c main_v2 = truncf (F := Ideal) .bf16 (extractStridedSlice S2048x7168 ![0, 0]
      (shapeCast S2048x7184 (m ((c : Thread nD τ).loc main_arg3)) shapeCasts_S1x2048x7184_S2048x7184) slices_S2048x7184_S2048x7168_0_0) bitsLt_bf16_f32 := by
    show StableHlo.after _ _ (Proc.devRef .tc main_v2) = _
    simp only [List.flatten_cons, List.flatten_nil, List.append_nil, List.cons_append, List.nil_append]
    after_results
    rfl
  rw [e]
  exact (left_of _ k n).trans (weights_of _ k (mainCol n))

theorem step_at (c : Dev nD) (k : Fin 2048) (n : Fin 128) :
    (V m c main_v6 : S2048x128.Idx → EReal) (ix2 k n)
      = if h : n.val < 16 then (m ((c : Thread nD τ).loc main_arg3) : S1x2048x7184.Idx → EReal) (ix3 0 k (stepCol n h)) else (0 : EReal) := by
  have e : V m c main_v6 = truncf (F := Ideal) .bf16 (pad S2048x128 ![0, 0] ![0, 112] ![0, 0] (extractStridedSlice S2048x16 ![0, 7168]
      (shapeCast S2048x7184 (m ((c : Thread nD τ).loc main_arg3)) shapeCasts_S1x2048x7184_S2048x7184) slices_S2048x7184_S2048x16_0_7168)
      (sitofp (F := Ideal) .f32 (constantI S_ 32 0#32)) pads_S2048x16_S2048x128_000_01120 h_S_) bitsLt_bf16_f32 := by
    show StableHlo.after _ _ (Proc.devRef .tc main_v6) = _
    simp only [List.flatten_cons, List.flatten_nil, List.append_nil, List.cons_append, List.nil_append]
    after_results
    rfl
  rw [e]
  refine (padded_of _ _ k n).trans ?_
  by_cases h16 : n.val < 16
  · rw [dif_pos h16, dif_pos h16]
    exact (right_of _ k n h16).trans (weights_of _ k (stepCol n h16))
  · rw [dif_neg h16, dif_neg h16]
    exact zero_word

/-! ## The blocks -/

/-- The row block of a grid point, and its column block. -/
abbrev pi_ (t : Fin cfg0.N) : Fin 32 := grid0.coords t 0
abbrev pj (t : Fin cfg0.N) : Fin 7 := grid0.coords t 1

theorem coords_eq : ∀ t : Fin cfg0.N, (pi_ t).val = t.val / 7 ∧ (pj t).val = t.val % 7 := by
  unfold pi_ pj
  decide +kernel

theorem idx_all : ∀ t : Fin cfg0.N,
    (win0_0.index t 0 = (pi_ t).val ∧ win0_0.index t 1 = 0)
    ∧ (win0_1.index t 0 = (pi_ t).val / 2 ∧ win0_1.index t 1 = 0 ∧ win0_1.index t 2 = 0)
    ∧ (win0_2.index t 0 = 0 ∧ win0_2.index t 1 = 0)
    ∧ (win0_3.index t 0 = 0 ∧ win0_3.index t 1 = (pj t).val)
    ∧ (win0_4.index t 0 = 0 ∧ win0_4.index t 1 = 0)
    ∧ (win0_5.index t 0 = (pi_ t).val ∧ win0_5.index t 1 = (pj t).val)
    ∧ (win0_6.index t 0 = (pi_ t).val ∧ win0_6.index t 1 = 0) := by
  unfold pi_ pj
  decide +kernel

/-- The batch row a row block lies in, and its rows there. -/
def bat (i : Fin 32) : Fin 16 := ⟨i.val / 2, by omega⟩
def rin (i : Fin 32) (r : Fin 1024) : Fin 2048 := ⟨1024 * (i.val % 2) + r.val, by omega⟩
/-- A column of a column block. -/
def cin (j : Fin 7) (n : Fin 1024) : Fin 7168 := ⟨1024 * j.val + n.val, by omega⟩

theorem blk0 (c : Dev nD) (t : Fin cfg0.N) (r : Fin 1024) (k : Fin 2048) :
    (iblk m c 0 t : S1024x2048.Idx → EReal) (ix2 r k)
      = (m ((c : Thread nD τ).loc main_arg0) : S16x2048x2048.Idx → EReal) (ix3 (bat (pi_ t)) (rin (pi_ t) r) k) := by
  refine Eq.trans ?_ (rows_at m c _ _ k)
  have hi := (idx_all t).1
  refine congrArg (V m c main_v7) (funext fun a => Fin.ext ?_)
  match a with
  | ⟨0, _⟩ => show win0_0.index t 0 * 1024 + 1 * r.val = 2048 * ((pi_ t).val / 2) + (1024 * ((pi_ t).val % 2) + r.val); omega
  | ⟨1, _⟩ => show win0_0.index t 1 * 2048 + 1 * k.val = k.val; omega

theorem blk1 (c : Dev nD) (t : Fin cfg0.N) (e : Fin 6) (k : Fin 2048) :
    (iblk m c 1 t : S1x6x2048.Idx → EReal) (ix3 0 e k)
      = (m ((c : Thread nD τ).loc main_arg1) : S16x6x2048.Idx → EReal) (ix3 (bat (pi_ t)) e k) := by
  refine Eq.trans ?_ (congrFun (V_main_arg1 m c) _)
  have hi := (idx_all t).2.1
  refine congrArg (V m c main_arg1) (funext fun a => Fin.ext ?_)
  match a with
  | ⟨0, _⟩ => show win0_1.index t 0 * 1 + 1 * 0 = (pi_ t).val / 2; omega
  | ⟨1, _⟩ => show win0_1.index t 1 * 6 + 1 * e.val = e.val; omega
  | ⟨2, _⟩ => show win0_1.index t 2 * 2048 + 1 * k.val = k.val; omega

theorem blk2 (c : Dev nD) (t : Fin cfg0.N) (k : Fin 2048) :
    (iblk m c 2 t : S1x2048.Idx → EReal) (ix2 0 k) = (m ((c : Thread nD τ).loc main_arg2) : S1x2048.Idx → EReal) (ix2 0 k) := by
  refine Eq.trans ?_ (norm_at m c k)
  have hi := (idx_all t).2.2.1
  refine congrArg (V m c main_v9) (funext fun a => Fin.ext ?_)
  match a with
  | ⟨0, _⟩ => show win0_2.index t 0 * 1 + 1 * 0 = 0; omega
  | ⟨1, _⟩ => show win0_2.index t 1 * 2048 + 1 * k.val = k.val; omega

theorem blk3 (c : Dev nD) (t : Fin cfg0.N) (k : Fin 2048) (n : Fin 1024) :
    (iblk m c 3 t : S2048x1024.Idx → EReal) (ix2 k n)
      = (m ((c : Thread nD τ).loc main_arg3) : S1x2048x7184.Idx → EReal) (ix3 0 k (mainCol (cin (pj t) n))) := by
  refine Eq.trans ?_ (main_at m c k _)
  have hi := (idx_all t).2.2.2.1
  refine congrArg (V m c main_v2) (funext fun a => Fin.ext ?_)
  match a with
  | ⟨0, _⟩ => show win0_3.index t 0 * 2048 + 1 * k.val = k.val; omega
  | ⟨1, _⟩ => show win0_3.index t 1 * 1024 + 1 * n.val = 1024 * (pj t).val + n.val; omega

theorem blk4 (c : Dev nD) (t : Fin cfg0.N) (k : Fin 2048) (n : Fin 128) :
    (iblk m c 4 t : S2048x128.Idx → EReal) (ix2 k n)
      = if h : n.val < 16 then (m ((c : Thread nD τ).loc main_arg3) : S1x2048x7184.Idx → EReal) (ix3 0 k (stepCol n h)) else (0 : EReal) := by
  refine Eq.trans ?_ (step_at m c k n)
  have hi := (idx_all t).2.2.2.2.1
  refine congrArg (V m c main_v6) (funext fun a => Fin.ext ?_)
  match a with
  | ⟨0, _⟩ => show win0_4.index t 0 * 2048 + 1 * k.val = k.val; omega
  | ⟨1, _⟩ => show win0_4.index t 1 * 128 + 1 * n.val = n.val; omega

end Cert.InProjIdeal.Val

end
-- ==== Proof.InProjArray.lean ====
/-
  The arrays that the input projection's kernel leaves, entry by entry.
-/
module

public import Idealize.ShloMosaic.Lib.Pipeline.Value
public import proofs.«01_k».proof.Proof.InProjHost

set_option maxRecDepth 16384

@[expose] public section

noncomputable section

namespace Cert.InProjIdeal.Val

open Idealize.ShloMosaic Idealize.ShloMosaic.TcCoe Idealize.SL.Sem Cert.InProjIdeal.Gen
open Cert.InProjSpec

variable (m : (ℓ : Loc nD τ sig) → Buf (Elt Ideal) ℓ) (ρ : Dev nD → PrngReg)

/-! ## What a grid point writes -/

/-- The projection of the launch's arguments, and its padded last columns. -/
abbrev pres (c : Dev nD) (b : Fin 16) (s : Fin 2048) (n : Fin 7184) : EReal :=
  proj (m ((c : Thread nD τ).loc main_arg0)) (m ((c : Thread nD τ).loc main_arg1)) (m ((c : Thread nD τ).loc main_arg2))
    (m ((c : Thread nD τ).loc main_arg3)) b s n
abbrev sres (c : Dev nD) (b : Fin 16) (s : Fin 2048) (n : Fin 128) : EReal :=
  steps (m ((c : Thread nD τ).loc main_arg0)) (m ((c : Thread nD τ).loc main_arg1)) (m ((c : Thread nD τ).loc main_arg2))
    (m ((c : Thread nD τ).loc main_arg3)) b s n

/-- The activation that a grid point uses is the activation of its row block. -/
theorem hidAt_apply (c : Dev nD) (t : Fin cfg0.N) (r : Fin 1024) (k : Fin 2048) :
    (hidAt m c t (ix2 r k) : EReal)
      = InProjSpec.hidden (m ((c : Thread nD τ).loc main_arg0)) (m ((c : Thread nD τ).loc main_arg1)) (m ((c : Thread nD τ).loc main_arg2))
          (bat (pi_ t)) (rin (pi_ t) r) k := by
  unfold hidAt
  refine (hid_apply _ _ _ r k).trans ?_
  unfold InProjSpec.hidden
  exact act_congr (fun j => blk0 m c t r j) (fun j => blk2 m c t j) (fun j => blk1 m c t 0 j) (fun j => blk1 m c t 1 j) k

theorem out5_apply (c : Dev nD) (t : Fin cfg0.N) (r n : Fin 1024) :
    ((dats m 0 c).after 5 t (ix2 r n) : EReal) = pres m c (bat (pi_ t)) (rin (pi_ t) r) (mainCol (cin (pj t) n)) := by
  refine (congrFun (after_5 m c t) (ix2 r n)).trans ((pay1_apply _ _ r n).trans ?_)
  unfold pres proj
  exact Finset.sum_congr rfl fun k _ => congrArg₂ (· * ·) (hidAt_apply m c t r k) (blk3 m c t k n)

/-- Past the sixteenth column the weights are zero, and so is the product. -/
theorem out6_apply (c : Dev nD) (t : Fin cfg0.N) (r : Fin 1024) (n : Fin 128) :
    ((dats m 0 c).after 6 t (ix2 r n) : EReal) = sres m c (bat (pi_ t)) (rin (pi_ t) r) n := by
  refine (congrFun (after_6 m c t) (ix2 r n)).trans ((pay3_apply _ _ r n).trans ?_)
  unfold sres steps proj
  by_cases h : n.val < 16
  · rw [dif_pos h]
    exact Finset.sum_congr rfl fun k _ => congrArg₂ (· * ·) (hidAt_apply m c t r k) ((blk4 m c t k n).trans (dif_pos h))
  · rw [dif_neg h]
    refine Finset.sum_eq_zero fun k _ => ?_
    refine (congrArg₂ (· * ·) rfl ((blk4 m c t k n).trans (dif_neg h))).trans ?_
    exact mul_zero (hidAt m c t (ix2 r k) : EReal)

/-! ## Which points write back, and where -/

theorem point_ext (t t' : Fin cfg0.N) (h0 : (pi_ t).val = (pi_ t').val) (h1 : (pj t).val = (pj t').val) : t = t' := by
  have e := coords_eq t
  have e' := coords_eq t'
  exact Fin.ext (by omega)

theorem disjoint5 (t t' : Fin cfg0.N) (_ : (cfg0.win 5).flush t = true) (_ : (cfg0.win 5).flush t' = true) (hne : t ≠ t') :
    Disjoint ((cfg0.win 5).blk t).view.set ((cfg0.win 5).blk t').view.set :=
  (cfg0.win 5).disjoint_blk fun h => hne (by
    have e := (idx_all t).2.2.2.2.2.1
    have e' := (idx_all t').2.2.2.2.2.1
    have h0 : win0_5.index t 0 = win0_5.index t' 0 := congrFun h 0
    have h1 : win0_5.index t 1 = win0_5.index t' 1 := congrFun h 1
    exact point_ext t t' (by omega) (by omega))

theorem disjoint6 (t t' : Fin cfg0.N) (hf : (cfg0.win 6).flush t = true) (hf' : (cfg0.win 6).flush t' = true) (hne : t ≠ t') :
    Disjoint ((cfg0.win 6).blk t).view.set ((cfg0.win 6).blk t').view.set :=
  (cfg0.win 6).disjoint_blk fun h => hne (by
    have e := (idx_all t).2.2.2.2.2.2
    have e' := (idx_all t').2.2.2.2.2.2
    have h0 : win0_6.index t 0 = win0_6.index t' 0 := congrFun h 0
    have d := (flush0_6 t).mp hf
    have d' := (flush0_6 t').mp hf'
    have q := coords_eq t
    have q' := coords_eq t'
    exact point_ext t t' (by omega) (by omega))

theorem point_of (i : Fin 32) (j : Fin 7) : ∃ t : Fin cfg0.N, pi_ t = i ∧ pj t = j := by
  have hN : cfg0.N = 224 := N_0
  have hlt : 7 * i.val + j.val < cfg0.N := by omega
  obtain ⟨h1, h2⟩ := coords_eq ⟨7 * i.val + j.val, hlt⟩
  exact ⟨_, Fin.ext (h1.trans (by show (7 * i.val + j.val) / 7 = i.val; omega)),
    Fin.ext (h2.trans (by show (7 * i.val + j.val) % 7 = j.val; omega))⟩

/-! ## The arrays -/

theorem array5_block (c : Dev nD) (i : Fin 32) (j : Fin 7) (r n : Fin 1024) :
    ((dats m 0 c).arrAt 5 cfg0.N : S32768x7168.Idx → EReal) (ix2 (row (bat i) (rin i r)) (cin j n))
      = pres m c (bat i) (rin i r) (mainCol (cin j n)) := by
  obtain ⟨t, rfl, rfl⟩ := point_of i j
  refine Eq.trans ?_ (out5_apply m c t r n)
  have hb := (dats m 0 c).read_blk_arrAt_eq_flushed 5 disjoint5 cfg0.N t t.isLt (flush0_5 t)
  refine Eq.trans ?_ (congrFun hb (ix2 r n))
  have hi := (idx_all t).2.2.2.2.2.1
  refine congrArg ((dats m 0 c).arrAt 5 cfg0.N) (funext fun a => Fin.ext ?_)
  match a with
  | ⟨0, _⟩ => show 2048 * ((pi_ t).val / 2) + (1024 * ((pi_ t).val % 2) + r.val) = win0_5.index t 0 * 1024 + 1 * r.val; omega
  | ⟨1, _⟩ => show 1024 * (pj t).val + n.val = win0_5.index t 1 * 1024 + 1 * n.val; omega

theorem array6_block (c : Dev nD) (i : Fin 32) (r : Fin 1024) (n : Fin 128) :
    ((dats m 0 c).arrAt 6 cfg0.N : S32768x128.Idx → EReal) (ix2 (row (bat i) (rin i r)) n) = sres m c (bat i) (rin i r) n := by
  obtain ⟨t, rfl, hj⟩ := point_of i 6
  refine Eq.trans ?_ (out6_apply m c t r n)
  have hf : (cfg0.win 6).flush t = true := (flush0_6 t).mpr (by
    have q := (coords_eq t).2
    have q' : (pj t).val = 6 := congrArg Fin.val hj
    omega)
  have hb := (dats m 0 c).read_blk_arrAt_eq_flushed 6 disjoint6 cfg0.N t t.isLt hf
  refine Eq.trans ?_ (congrFun hb (ix2 r n))
  have hi := (idx_all t).2.2.2.2.2.2
  refine congrArg ((dats m 0 c).arrAt 6 cfg0.N) (funext fun a => Fin.ext ?_)
  match a with
  | ⟨0, _⟩ => show 2048 * ((pi_ t).val / 2) + (1024 * ((pi_ t).val % 2) + r.val) = win0_6.index t 0 * 1024 + 1 * r.val; omega
  | ⟨1, _⟩ => show n.val = win0_6.index t 1 * 128 + 1 * n.val; omega

/-- A row lies in a row block. -/
theorem row_split (b : Fin 16) (s : Fin 2048) : ∃ (i : Fin 32) (r : Fin 1024), bat i = b ∧ rin i r = s :=
  ⟨⟨2 * b.val + s.val / 1024, by omega⟩, ⟨s.val % 1024, by omega⟩,
    Fin.ext (by show (2 * b.val + s.val / 1024) / 2 = b.val; omega),
    Fin.ext (by show 1024 * ((2 * b.val + s.val / 1024) % 2) + s.val % 1024 = s.val; omega)⟩

/-- The first result array. -/
theorem array5 (c : Dev nD) (b : Fin 16) (s : Fin 2048) (n : Fin 7168) :
    ((dats m 0 c).arrAt 5 cfg0.N : S32768x7168.Idx → EReal) (ix2 (row b s) n) = pres m c b s (mainCol n) := by
  obtain ⟨i, r, rfl, rfl⟩ := row_split b s
  obtain ⟨j, q, rfl⟩ : ∃ (j : Fin 7) (q : Fin 1024), cin j q = n :=
    ⟨⟨n.val / 1024, by omega⟩, ⟨n.val % 1024, by omega⟩, Fin.ext (by show 1024 * (n.val / 1024) + n.val % 1024 = n.val; omega)⟩
  exact array5_block m c i j r q

/-- The second result array. -/
theorem array6 (c : Dev nD) (b : Fin 16) (s : Fin 2048) (n : Fin 128) :
    ((dats m 0 c).arrAt 6 cfg0.N : S32768x128.Idx → EReal) (ix2 (row b s) n) = sres m c b s n := by
  obtain ⟨i, r, rfl, rfl⟩ := row_split b s
  exact array6_block m c i r n

/-! ## The run -/

/-- The run ends with the two arrays in the results and the arguments as they were. -/
theorem run_results : θ_run defs (onTc (τ := τ) (main (F := Ideal))) ⟨m, fun _ => 0, ρ⟩ fun r => ∀ c : Dev nD,
      r.2.mem ((c.tc : Thread nD τ).loc main_v10_0) = (dats m 0 c).arrAt 5 cfg0.N
      ∧ r.2.mem ((c.tc : Thread nD τ).loc main_v10_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  have hk := (θ_run defs _ _).mono (fun _ h => h.1) (frame m ρ)
  exact (θ_run defs _ _).mono (fun r h c => ⟨(h.1 c).1 5, (h.1 c).1 6, h.2 c⟩) (θ_run_and (run_arrays m ρ) hk)

end Cert.InProjIdeal.Val

end
-- ==== Proof.InProjRef.lean ====
/-
  The input projection's reference, entry by entry.
-/
module

public import Idealize.ShloMosaic.Lib.Pointwise
public import proofs.«01_k».proof.Proof.InProjSpec
public import proofs.«01_k».proof.Proof.Gen.InProjRefIdeal.Read

set_option maxRecDepth 16384

@[expose] public section

noncomputable section

namespace Cert.InProjRefIdeal.Rd

open Idealize.ShloMosaic Cert.InProjRefIdeal Cert.InProjRefIdeal.Gen Cert.InProjRefIdeal.Read Idealize.ShloMosaic.Tactic
open Cert.InProjSpec

variable (x0 : S16x2048x2048.Idx → EReal) (x1 : S16x6x2048.Idx → EReal) (x2 : S1x2048.Idx → EReal) (x3 : S1x2048x7184.Idx → EReal)

theorem hidden_ref (b : Fin 16) (s k : Fin 2048) :
    (val_main_v21 (F := Ideal) x0 x1 x2 (ix3 b s k) : EReal) = InProjSpec.hidden x0 x1 x2 b s k := by
  unfold InProjSpec.hidden act
  pointwise [val_main_v21, val_main_v20, val_main_v19, val_main_v18, val_main_v17, val_main_v16, val_main_v15, val_main_v14,
    val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2]

theorem proj_ref (b : Fin 16) (s : Fin 2048) (n : Fin 7184) :
    (val_main_v24 (F := Ideal) x0 x1 x2 x3 (ix2 (row b s) n) : EReal) = proj x0 x1 x2 x3 b s n := by
  have e : (val_main_v24 (F := Ideal) x0 x1 x2 x3 (ix2 (row b s) n) : EReal) = val_main_v23 (F := Ideal) x0 x1 x2 x3 (ix3 b s n) := by
    unfold val_main_v24
    generalize val_main_v23 (F := Ideal) x0 x1 x2 x3 = y
    exact shapeCast_apply y shapeCasts_S16x2048x7184_S32768x7184 (ix2 (row b s) n) (ix3 b s n)
      (by rewrite [Shape.rowMajor_val_three, Shape.rowMajor_val_two]
          show (b.val * 2048 + s.val) * 7184 + n.val = (2048 * b.val + s.val) * 7184 + n.val
          omega)
  rw [e, val_main_v23_apply]
  unfold proj
  refine Finset.sum_congr rfl fun k _ => ?_
  refine congrArg₂ (· * ·) ?_ ?_
  · refine Eq.trans (congrArg _ (eq_ix3 _)) (hidden_ref x0 x1 x2 b s k)
  · refine Eq.trans (congrArg _ (eq_ix2 _)) ?_
    unfold val_main_v22
    exact shapeCast_apply x3 shapeCasts_S1x2048x7184_S2048x7184 (ix2 k n) (ix3 0 k n)
      (by rewrite [Shape.rowMajor_val_three, Shape.rowMajor_val_two]
          show (0 * 2048 + k.val) * 7184 + n.val = k.val * 7184 + n.val
          omega)

/-- The reference's first result. -/
theorem main_ref (b : Fin 16) (s : Fin 2048) (n : Fin 7168) :
    (val_main_v26 (F := Ideal) x0 x1 x2 x3 (ix2 (row b s) n) : EReal) = proj x0 x1 x2 x3 b s (mainCol n) := by
  refine Eq.trans ?_ (proj_ref x0 x1 x2 x3 b s (mainCol n))
  refine (val_main_v25_apply (F := Ideal) x0 x1 x2 x3 _).trans ?_
  exact congrArg _ (eq_ix2 _)

/-- The reference's second result. -/
theorem steps_ref (b : Fin 16) (s : Fin 2048) (n : Fin 128) :
    (val_main_v28 (F := Ideal) x0 x1 x2 x3 (ix2 (row b s) n) : EReal) = steps x0 x1 x2 x3 b s n := by
  have e : ∀ (y : S32768x16.Idx → EReal) (z : S_.Idx → EReal) (r : Fin 32768),
      (pad S32768x128 ![0, 0] ![0, 112] ![0, 0] y z pads_S32768x16_S32768x128_000_01120 h_S_ (ix2 r n) : EReal)
        = if h : n.val < 16 then y (ix2 r ⟨n.val, h⟩) else z (Shape.Idx.first h_S_) := by
    intro y z r
    pointwise
  unfold val_main_v28
  refine (e _ _ _).trans ?_
  unfold steps
  by_cases h16 : n.val < 16
  · rw [dif_pos h16, dif_pos h16]
    refine Eq.trans ?_ (proj_ref x0 x1 x2 x3 b s (stepCol n h16))
    refine (val_main_v27_apply (F := Ideal) x0 x1 x2 x3 _).trans ?_
    exact congrArg _ (eq_ix2 _)
  · rw [dif_neg h16, dif_neg h16]
    unfold val_main_call0_v0
    pointwise [val_main_c]
    exact sitofp_zero

end Cert.InProjRefIdeal.Rd

end
-- ==== Proof.InProjClaim.lean ====
/-
  The input projection's kernel and its reference, both at the projection of `InProjSpec`: equal results.
-/
module

public import proofs.«01_k».proof.Defs
public import proofs.«01_k».proof.Proof.InProjArray
public import proofs.«01_k».proof.Proof.InProjRef

set_option maxRecDepth 16384

@[expose] public section

noncomputable section

namespace Cert.InProjClaim

open Idealize.ShloMosaic Idealize.ShloMosaic.TcCoe Idealize.SL.Sem Cert.InProjSpec

/-- Every row is a row of a batch row. -/
theorem row_cases (r : Fin 32768) : ∃ (b : Fin 16) (s : Fin 2048), r = row b s :=
  ⟨⟨r.val / 2048, by omega⟩, ⟨r.val % 2048, by omega⟩, Fin.ext (by show r.val = 2048 * (r.val / 2048) + r.val % 2048; omega)⟩

/-- The kernel's first result array is the reference's first result, at equal arguments. -/
theorem first_eq (m : (ℓ : Loc Cert.InProjIdeal.nD Cert.InProjIdeal.τ Cert.InProjIdeal.sig) → Buf (Elt Ideal) ℓ) (c : Dev Cert.InProjIdeal.nD) :
    (Cert.InProjRefIdeal.Read.val_main_v26 (F := Ideal)
      (m ((c.tc : Thread Cert.InProjIdeal.nD Cert.InProjIdeal.τ).loc Cert.InProjIdeal.main_arg0))
      (m ((c.tc : Thread Cert.InProjIdeal.nD Cert.InProjIdeal.τ).loc Cert.InProjIdeal.main_arg1))
      (m ((c.tc : Thread Cert.InProjIdeal.nD Cert.InProjIdeal.τ).loc Cert.InProjIdeal.main_arg2))
      (m ((c.tc : Thread Cert.InProjIdeal.nD Cert.InProjIdeal.τ).loc Cert.InProjIdeal.main_arg3)) : (⟨2, ![32768, 7168]⟩ : Shape).Idx → EReal)
      = (Cert.InProjIdeal.Val.dats m 0 c).arrAt 5 Cert.InProjIdeal.cfg0.N := by
  funext i
  obtain ⟨r, k, rfl⟩ : ∃ (r : Fin 32768) (k : Fin 7168), i = ix2 r k := ⟨i 0, i 1, eq_ix2 i⟩
  obtain ⟨b, s, rfl⟩ := row_cases r
  exact (Cert.InProjRefIdeal.Rd.main_ref _ _ _ _ b s k).trans (Cert.InProjIdeal.Val.array5 m c b s k).symm

/-- So is the second. -/
theorem second_eq (m : (ℓ : Loc Cert.InProjIdeal.nD Cert.InProjIdeal.τ Cert.InProjIdeal.sig) → Buf (Elt Ideal) ℓ) (c : Dev Cert.InProjIdeal.nD) :
    (Cert.InProjRefIdeal.Read.val_main_v28 (F := Ideal)
      (m ((c.tc : Thread Cert.InProjIdeal.nD Cert.InProjIdeal.τ).loc Cert.InProjIdeal.main_arg0))
      (m ((c.tc : Thread Cert.InProjIdeal.nD Cert.InProjIdeal.τ).loc Cert.InProjIdeal.main_arg1))
      (m ((c.tc : Thread Cert.InProjIdeal.nD Cert.InProjIdeal.τ).loc Cert.InProjIdeal.main_arg2))
      (m ((c.tc : Thread Cert.InProjIdeal.nD Cert.InProjIdeal.τ).loc Cert.InProjIdeal.main_arg3)) : (⟨2, ![32768, 128]⟩ : Shape).Idx → EReal)
      = (Cert.InProjIdeal.Val.dats m 0 c).arrAt 6 Cert.InProjIdeal.cfg0.N := by
  funext i
  obtain ⟨r, k, rfl⟩ : ∃ (r : Fin 32768) (k : Fin 128), i = ix2 r k := ⟨i 0, i 1, eq_ix2 i⟩
  obtain ⟨b, s, rfl⟩ := row_cases r
  exact (Cert.InProjRefIdeal.Rd.steps_ref _ _ _ _ b s k).trans (Cert.InProjIdeal.Val.array6 m c b s k).symm

theorem algebraic : Cert.algebraic_InProjIdeal_InProjRefIdeal (hInProjIdeal := Cert.InProjIdeal.Gen.facts) (hInProjRefIdeal := Cert.InProjRefIdeal.Gen.facts) := by
  intro m g m' g' _ hag
  refine ⟨fun c => (Cert.InProjIdeal.Val.dats m 0 c).arrAt 5 Cert.InProjIdeal.cfg0.N,
    fun c => (Cert.InProjIdeal.Val.dats m 0 c).arrAt 6 Cert.InProjIdeal.cfg0.N, Cert.InProjIdeal.Val.run_results m g, ?_⟩
  refine (θ_run Cert.InProjRefIdeal.defs _ _).mono (fun r h c => ⟨(h c).1.trans ?_, (h c).2.1.trans ?_, (h c).2.2⟩)
    (Cert.InProjRefIdeal.Value.run m' g')
  · obtain ⟨h0, h1, h2, h3⟩ := hag c
    refine (Cert.InProjRefIdeal.Read.val_main_v26_eq (F := Ideal) _ _ _ _).trans ?_
    rw [h0, h1, h2, h3]
    exact first_eq m c
  · obtain ⟨h0, h1, h2, h3⟩ := hag c
    refine (Cert.InProjRefIdeal.Read.val_main_v28_eq (F := Ideal) _ _ _ _).trans ?_
    rw [h0, h1, h2, h3]
    exact second_eq m c

end Cert.InProjClaim

end
-- ==== Proof.InProjFrame.lean ====
/-
  The frame of the input projection call as printed, from the frame of its ideal copy.  The two printed programs are the
  same text, so each of their parts equals its counterpart, and the run proved over any float type for the one is the
  run of the other.
-/
module

public import proofs.«01_k».proof.Defs
public import proofs.«01_k».proof.Proof.Gen.InProj
public import proofs.«01_k».proof.Proof.InProjLaunch

@[expose] public section

set_option maxRecDepth 16384

namespace Cert.InProjFrame

open Idealize.ShloMosaic Idealize.SL.Sem

variable {F : FTy → Type} [FloatOps F]

/-- The two body tables agree: their one label runs the same kernel function. -/
theorem bodies_eq : Cert.InProj.defs₀ (F := F) = Cert.InProjIdeal.defs₀ (F := F) := by
  unfold Cert.InProj.defs₀ Cert.InProjIdeal.defs₀
  congr 1
  funext l a
  match l, a with
  | 0, (t, s) => rfl

/-- So do the pipelines' tables of definitions. -/
theorem defs_eq : Cert.InProj.defs (F := F) = Cert.InProjIdeal.defs (F := F) :=
  congrArg (Pipeline.defs Cert.InProj.pcfgs) bodies_eq

/-- And the main functions. -/
theorem main_eq : Cert.InProj.main (F := F) = Cert.InProjIdeal.main (F := F) := rfl

/-- The printed call terminates, keeps its arguments and leaves no semaphore raised. -/
theorem frame : Cert.quiescent_InProj (hInProj := Cert.InProj.Gen.facts) := by
  intro m ρ _
  have h := Cert.InProjIdeal.Val.frame (F := Bits) m ρ
  rw [← defs_eq, ← main_eq] at h
  exact h

end Cert.InProjFrame

end
-- ==== Proof.lean ====
/-
  The certificate's claims, assembled: for each call the three frames, `preserves`, and the equation with the plain jax
  mathematics, of the recurrence call and of the input projection call.
-/
module

public import proofs.«01_k».proof.Defs
public import proofs.«01_k».proof.Proof.Gen.Ssd
public import proofs.«01_k».proof.Proof.Gen.Ssd.Skeleton
public import proofs.«01_k».proof.Proof.Gen.Ssd.Loops
public import proofs.«01_k».proof.Proof.Gen.Ssd.Launch
public import proofs.«01_k».proof.Proof.Gen.Ssd.Points
public import proofs.«01_k».proof.Proof.Gen.Ssd.Frame
public import proofs.«01_k».proof.Proof.Gen.SsdIdeal
public import proofs.«01_k».proof.Proof.Gen.SsdIdeal.Skeleton
public import proofs.«01_k».proof.Proof.Gen.SsdIdeal.Loops
public import proofs.«01_k».proof.Proof.Gen.SsdIdeal.Launch
public import proofs.«01_k».proof.Proof.Gen.SsdIdeal.Points
public import proofs.«01_k».proof.Proof.Gen.SsdIdeal.Frame
public import proofs.«01_k».proof.Proof.Gen.SsdIdeal.Value
public import proofs.«01_k».proof.Proof.Gen.SsdRefIdeal
public import proofs.«01_k».proof.Proof.Gen.SsdRefIdeal.Run
public import proofs.«01_k».proof.Proof.Gen.SsdRefIdeal.Read
public import proofs.«01_k».proof.Proof.SsdClaim
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjRefIdeal.Run
public import proofs.«01_k».proof.Proof.Gen.InProjRefIdeal.Read
public import proofs.«01_k».proof.Proof.InProjClaim
public import proofs.«01_k».proof.Proof.InProjFrame
public import Idealize.ShloMosaic.Adequacy
public import Idealize.ShloMosaic.Init

@[expose] public section

noncomputable section

namespace Cert.Proof

open Idealize.ShloMosaic Idealize.SL.Sem Cert.Ssd

/-- The recurrence's reference terminates, keeps its arguments, and has no semaphore that could be left raised. -/
theorem ssd_reference_frame : Cert.quiescent_SsdRefIdeal (hSsdRefIdeal := Cert.SsdRefIdeal.Gen.facts) :=
  fun m ρ _ =>
    (θ_run Cert.SsdRefIdeal.defs _ _).mono
      (fun r h => ⟨fun c => (h c).2, sem_eq_zero_of_no_sems (by decide) r.2⟩)
      (Cert.SsdRefIdeal.Value.run (F := Ideal) m ρ)

/-- So does the input projection's reference. -/
theorem in_proj_reference_frame : Cert.quiescent_InProjRefIdeal (hInProjRefIdeal := Cert.InProjRefIdeal.Gen.facts) :=
  fun m ρ _ =>
    (θ_run Cert.InProjRefIdeal.defs _ _).mono
      (fun r h => ⟨fun c => (h c).2.2, sem_eq_zero_of_no_sems (by decide) r.2⟩)
      (Cert.InProjRefIdeal.Value.run (F := Ideal) m ρ)

/-- Everything that the certificate claims. -/
theorem claim : Cert.Claim :=
  ⟨Cert.Ssd.Gen.facts, Cert.SsdIdeal.Gen.facts, Cert.SsdRefIdeal.Gen.facts,
    Cert.InProj.Gen.facts, Cert.InProjIdeal.Gen.facts, Cert.InProjRefIdeal.Gen.facts,
    fun m ρ _ => Cert.Ssd.Gen.frame m ρ,
    fun m ρ _ => Cert.SsdIdeal.Gen.frame m ρ,
    ssd_reference_frame,
    Cert.InProjFrame.frame,
    fun m ρ _ => Cert.InProjIdeal.Val.frame m ρ,
    in_proj_reference_frame,
    trivial,
    Cert.SsdClaim.algebraic,
    trivial,
    Cert.InProjClaim.algebraic⟩

end Cert.Proof

end
